-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v273)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v273) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x32768x2 : Shape := ⟨3, ![32, 32768, 2]⟩
abbrev S16x2x32 : Shape := ⟨3, ![16, 2, 32]⟩
abbrev S32 : Shape := ⟨1, ![32]⟩
abbrev S_ : Shape := ⟨0, ![]⟩
abbrev S32x33024x2 : Shape := ⟨3, ![32, 33024, 2]⟩
abbrev S32x258x256 : Shape := ⟨3, ![32, 258, 256]⟩
abbrev S32x32 : Shape := ⟨2, ![32, 32]⟩
abbrev S288x32 : Shape := ⟨2, ![288, 32]⟩
abbrev S288x32x1 : Shape := ⟨3, ![288, 32, 1]⟩
abbrev S288x32x16 : Shape := ⟨3, ![288, 32, 16]⟩
abbrev S288x32x128 : Shape := ⟨3, ![288, 32, 128]⟩
abbrev S288x4096 : Shape := ⟨2, ![288, 4096]⟩
abbrev S32x128 : Shape := ⟨2, ![32, 128]⟩
abbrev S4096 : Shape := ⟨1, ![4096]⟩
abbrev S1x4096 : Shape := ⟨2, ![1, 4096]⟩
abbrev S32x32x63119 : Shape := ⟨3, ![32, 32, 63119]⟩
abbrev S1x258x256 : Shape := ⟨3, ![1, 258, 256]⟩
abbrev S1x32x63119 : Shape := ⟨3, ![1, 32, 63119]⟩
abbrev S32x32768 : Shape := ⟨2, ![32, 32768]⟩
abbrev S1x64x256 : Shape := ⟨3, ![1, 64, 256]⟩
abbrev S64x256 : Shape := ⟨2, ![64, 256]⟩
abbrev S1x64x32 : Shape := ⟨3, ![1, 64, 32]⟩
abbrev S64x32 : Shape := ⟨2, ![64, 32]⟩
abbrev S64x288 : Shape := ⟨2, ![64, 288]⟩
abbrev S64x4096 : Shape := ⟨2, ![64, 4096]⟩
abbrev S64x32x128 : Shape := ⟨3, ![64, 32, 128]⟩
abbrev S32x64x128 : Shape := ⟨3, ![32, 64, 128]⟩
abbrev S32x8192 : Shape := ⟨2, ![32, 8192]⟩
abbrev S32x497 : Shape := ⟨2, ![32, 497]⟩
abbrev S1x32x497 : Shape := ⟨3, ![1, 32, 497]⟩
abbrev S32x63119x32 : Shape := ⟨3, ![32, 63119, 32]⟩

abbrev nBuf : Space → Nat
  | .hbm => 535
  | .vmem => 7
  | .smem => 0
  | _ => 0

abbrev hbmTy0_0 (i : Nat) : BufTy := match i % 128 with
  | 0 => ⟨S32x32768x2, .f32⟩
  | 1 => ⟨S16x2x32, .f32⟩
  | 2 => ⟨S32, .f32⟩
  | 3 => ⟨S_, .i32⟩
  | 4 => ⟨S_, .f32⟩
  | 5 => ⟨S32x33024x2, .f32⟩
  | 6 => ⟨S32x258x256, .f32⟩
  | 7 => ⟨S32x32, .f32⟩
  | 8 => ⟨S_, .i32⟩
  | 9 => ⟨S_, .f32⟩
  | 10 => ⟨S288x32, .f32⟩
  | 11 => ⟨S_, .i32⟩
  | 12 => ⟨S_, .f32⟩
  | 13 => ⟨S288x32, .f32⟩
  | 14 => ⟨S_, .i32⟩
  | 15 => ⟨S_, .f32⟩
  | 16 => ⟨S288x32, .f32⟩
  | 17 => ⟨S_, .i32⟩
  | 18 => ⟨S_, .f32⟩
  | 19 => ⟨S288x32, .f32⟩
  | 20 => ⟨S_, .i32⟩
  | 21 => ⟨S_, .f32⟩
  | 22 => ⟨S288x32, .f32⟩
  | 23 => ⟨S_, .i32⟩
  | 24 => ⟨S_, .f32⟩
  | 25 => ⟨S288x32, .f32⟩
  | 26 => ⟨S_, .i32⟩
  | 27 => ⟨S_, .f32⟩
  | 28 => ⟨S288x32, .f32⟩
  | 29 => ⟨S_, .i32⟩
  | 30 => ⟨S_, .f32⟩
  | 31 => ⟨S288x32, .f32⟩
  | 32 => ⟨S_, .i32⟩
  | 33 => ⟨S_, .f32⟩
  | 34 => ⟨S288x32, .f32⟩
  | 35 => ⟨S_, .i32⟩
  | 36 => ⟨S_, .f32⟩
  | 37 => ⟨S288x32, .f32⟩
  | 38 => ⟨S_, .i32⟩
  | 39 => ⟨S_, .f32⟩
  | 40 => ⟨S288x32, .f32⟩
  | 41 => ⟨S_, .i32⟩
  | 42 => ⟨S_, .f32⟩
  | 43 => ⟨S288x32, .f32⟩
  | 44 => ⟨S_, .i32⟩
  | 45 => ⟨S_, .f32⟩
  | 46 => ⟨S288x32, .f32⟩
  | 47 => ⟨S_, .i32⟩
  | 48 => ⟨S_, .f32⟩
  | 49 => ⟨S288x32, .f32⟩
  | 50 => ⟨S_, .i32⟩
  | 51 => ⟨S_, .f32⟩
  | 52 => ⟨S288x32, .f32⟩
  | 53 => ⟨S_, .i32⟩
  | 54 => ⟨S_, .f32⟩
  | 55 => ⟨S288x32, .f32⟩
  | 56 => ⟨S_, .i32⟩
  | 57 => ⟨S_, .f32⟩
  | 58 => ⟨S288x32, .f32⟩
  | 59 => ⟨S_, .i32⟩
  | 60 => ⟨S_, .f32⟩
  | 61 => ⟨S288x32, .f32⟩
  | 62 => ⟨S_, .i32⟩
  | 63 => ⟨S_, .f32⟩
  | 64 => ⟨S288x32, .f32⟩
  | 65 => ⟨S_, .i32⟩
  | 66 => ⟨S_, .f32⟩
  | 67 => ⟨S288x32, .f32⟩
  | 68 => ⟨S_, .i32⟩
  | 69 => ⟨S_, .f32⟩
  | 70 => ⟨S288x32, .f32⟩
  | 71 => ⟨S_, .i32⟩
  | 72 => ⟨S_, .f32⟩
  | 73 => ⟨S288x32, .f32⟩
  | 74 => ⟨S_, .i32⟩
  | 75 => ⟨S_, .f32⟩
  | 76 => ⟨S288x32, .f32⟩
  | 77 => ⟨S_, .i32⟩
  | 78 => ⟨S_, .f32⟩
  | 79 => ⟨S288x32, .f32⟩
  | 80 => ⟨S_, .i32⟩
  | 81 => ⟨S_, .f32⟩
  | 82 => ⟨S288x32, .f32⟩
  | 83 => ⟨S_, .i32⟩
  | 84 => ⟨S_, .f32⟩
  | 85 => ⟨S288x32, .f32⟩
  | 86 => ⟨S_, .i32⟩
  | 87 => ⟨S_, .f32⟩
  | 88 => ⟨S288x32, .f32⟩
  | 89 => ⟨S_, .i32⟩
  | 90 => ⟨S_, .f32⟩
  | 91 => ⟨S288x32, .f32⟩
  | 92 => ⟨S_, .i32⟩
  | 93 => ⟨S_, .f32⟩
  | 94 => ⟨S288x32, .f32⟩
  | 95 => ⟨S_, .i32⟩
  | 96 => ⟨S_, .f32⟩
  | 97 => ⟨S288x32, .f32⟩
  | 98 => ⟨S_, .i32⟩
  | 99 => ⟨S_, .f32⟩
  | 100 => ⟨S288x32, .f32⟩
  | 101 => ⟨S_, .i32⟩
  | 102 => ⟨S_, .f32⟩
  | 103 => ⟨S288x32, .f32⟩
  | 104 => ⟨S_, .i32⟩
  | 105 => ⟨S_, .f32⟩
  | 106 => ⟨S288x32, .f32⟩
  | 107 => ⟨S_, .i32⟩
  | 108 => ⟨S_, .f32⟩
  | 109 => ⟨S288x32, .f32⟩
  | 110 => ⟨S_, .i32⟩
  | 111 => ⟨S_, .f32⟩
  | 112 => ⟨S288x32, .f32⟩
  | 113 => ⟨S_, .i32⟩
  | 114 => ⟨S_, .f32⟩
  | 115 => ⟨S288x32, .f32⟩
  | 116 => ⟨S_, .i32⟩
  | 117 => ⟨S_, .f32⟩
  | 118 => ⟨S288x32, .f32⟩
  | 119 => ⟨S_, .i32⟩
  | 120 => ⟨S_, .f32⟩
  | 121 => ⟨S288x32, .f32⟩
  | 122 => ⟨S_, .i32⟩
  | 123 => ⟨S_, .f32⟩
  | 124 => ⟨S288x32, .f32⟩
  | 125 => ⟨S_, .i32⟩
  | 126 => ⟨S_, .f32⟩
  | 127 => ⟨S288x32, .f32⟩
  | _ => ⟨S32x32768x2, .f32⟩

abbrev hbmTy0_1 (i : Nat) : BufTy := match i % 128 with
  | 0 => ⟨S_, .i32⟩
  | 1 => ⟨S_, .f32⟩
  | 2 => ⟨S288x32, .f32⟩
  | 3 => ⟨S_, .i32⟩
  | 4 => ⟨S_, .f32⟩
  | 5 => ⟨S288x32, .f32⟩
  | 6 => ⟨S_, .i32⟩
  | 7 => ⟨S_, .f32⟩
  | 8 => ⟨S288x32, .f32⟩
  | 9 => ⟨S_, .i32⟩
  | 10 => ⟨S_, .f32⟩
  | 11 => ⟨S288x32, .f32⟩
  | 12 => ⟨S_, .i32⟩
  | 13 => ⟨S_, .f32⟩
  | 14 => ⟨S288x32, .f32⟩
  | 15 => ⟨S_, .i32⟩
  | 16 => ⟨S_, .f32⟩
  | 17 => ⟨S288x32, .f32⟩
  | 18 => ⟨S_, .i32⟩
  | 19 => ⟨S_, .f32⟩
  | 20 => ⟨S288x32, .f32⟩
  | 21 => ⟨S_, .i32⟩
  | 22 => ⟨S_, .f32⟩
  | 23 => ⟨S288x32, .f32⟩
  | 24 => ⟨S_, .i32⟩
  | 25 => ⟨S_, .f32⟩
  | 26 => ⟨S288x32, .f32⟩
  | 27 => ⟨S_, .i32⟩
  | 28 => ⟨S_, .f32⟩
  | 29 => ⟨S288x32, .f32⟩
  | 30 => ⟨S_, .i32⟩
  | 31 => ⟨S_, .f32⟩
  | 32 => ⟨S288x32, .f32⟩
  | 33 => ⟨S_, .i32⟩
  | 34 => ⟨S_, .f32⟩
  | 35 => ⟨S288x32, .f32⟩
  | 36 => ⟨S_, .i32⟩
  | 37 => ⟨S_, .f32⟩
  | 38 => ⟨S288x32, .f32⟩
  | 39 => ⟨S_, .i32⟩
  | 40 => ⟨S_, .f32⟩
  | 41 => ⟨S288x32, .f32⟩
  | 42 => ⟨S_, .i32⟩
  | 43 => ⟨S_, .f32⟩
  | 44 => ⟨S288x32, .f32⟩
  | 45 => ⟨S_, .i32⟩
  | 46 => ⟨S_, .f32⟩
  | 47 => ⟨S288x32, .f32⟩
  | 48 => ⟨S_, .i32⟩
  | 49 => ⟨S_, .f32⟩
  | 50 => ⟨S288x32, .f32⟩
  | 51 => ⟨S_, .i32⟩
  | 52 => ⟨S_, .f32⟩
  | 53 => ⟨S288x32, .f32⟩
  | 54 => ⟨S_, .i32⟩
  | 55 => ⟨S_, .f32⟩
  | 56 => ⟨S288x32, .f32⟩
  | 57 => ⟨S_, .i32⟩
  | 58 => ⟨S_, .f32⟩
  | 59 => ⟨S288x32, .f32⟩
  | 60 => ⟨S_, .i32⟩
  | 61 => ⟨S_, .f32⟩
  | 62 => ⟨S288x32, .f32⟩
  | 63 => ⟨S_, .i32⟩
  | 64 => ⟨S_, .f32⟩
  | 65 => ⟨S288x32, .f32⟩
  | 66 => ⟨S_, .i32⟩
  | 67 => ⟨S_, .f32⟩
  | 68 => ⟨S288x32, .f32⟩
  | 69 => ⟨S_, .i32⟩
  | 70 => ⟨S_, .f32⟩
  | 71 => ⟨S288x32, .f32⟩
  | 72 => ⟨S_, .i32⟩
  | 73 => ⟨S_, .f32⟩
  | 74 => ⟨S288x32, .f32⟩
  | 75 => ⟨S_, .i32⟩
  | 76 => ⟨S_, .f32⟩
  | 77 => ⟨S288x32, .f32⟩
  | 78 => ⟨S_, .i32⟩
  | 79 => ⟨S_, .f32⟩
  | 80 => ⟨S288x32, .f32⟩
  | 81 => ⟨S_, .i32⟩
  | 82 => ⟨S_, .f32⟩
  | 83 => ⟨S288x32, .f32⟩
  | 84 => ⟨S_, .i32⟩
  | 85 => ⟨S_, .f32⟩
  | 86 => ⟨S288x32, .f32⟩
  | 87 => ⟨S_, .i32⟩
  | 88 => ⟨S_, .f32⟩
  | 89 => ⟨S288x32, .f32⟩
  | 90 => ⟨S_, .i32⟩
  | 91 => ⟨S_, .f32⟩
  | 92 => ⟨S288x32, .f32⟩
  | 93 => ⟨S_, .i32⟩
  | 94 => ⟨S_, .f32⟩
  | 95 => ⟨S288x32, .f32⟩
  | 96 => ⟨S_, .i32⟩
  | 97 => ⟨S_, .f32⟩
  | 98 => ⟨S288x32, .f32⟩
  | 99 => ⟨S_, .i32⟩
  | 100 => ⟨S_, .f32⟩
  | 101 => ⟨S288x32, .f32⟩
  | 102 => ⟨S_, .i32⟩
  | 103 => ⟨S_, .f32⟩
  | 104 => ⟨S288x32, .f32⟩
  | 105 => ⟨S_, .i32⟩
  | 106 => ⟨S_, .f32⟩
  | 107 => ⟨S288x32, .f32⟩
  | 108 => ⟨S_, .i32⟩
  | 109 => ⟨S_, .f32⟩
  | 110 => ⟨S288x32, .f32⟩
  | 111 => ⟨S_, .i32⟩
  | 112 => ⟨S_, .f32⟩
  | 113 => ⟨S288x32, .f32⟩
  | 114 => ⟨S_, .i32⟩
  | 115 => ⟨S_, .f32⟩
  | 116 => ⟨S288x32, .f32⟩
  | 117 => ⟨S_, .i32⟩
  | 118 => ⟨S_, .f32⟩
  | 119 => ⟨S288x32, .f32⟩
  | 120 => ⟨S_, .i32⟩
  | 121 => ⟨S_, .f32⟩
  | 122 => ⟨S288x32, .f32⟩
  | 123 => ⟨S_, .i32⟩
  | 124 => ⟨S_, .f32⟩
  | 125 => ⟨S288x32, .f32⟩
  | 126 => ⟨S_, .i32⟩
  | 127 => ⟨S_, .f32⟩
  | _ => ⟨S32x32768x2, .f32⟩

abbrev hbmTy0_2 (i : Nat) : BufTy := match i % 128 with
  | 0 => ⟨S288x32, .f32⟩
  | 1 => ⟨S_, .i32⟩
  | 2 => ⟨S_, .f32⟩
  | 3 => ⟨S288x32, .f32⟩
  | 4 => ⟨S_, .i32⟩
  | 5 => ⟨S_, .f32⟩
  | 6 => ⟨S288x32, .f32⟩
  | 7 => ⟨S_, .i32⟩
  | 8 => ⟨S_, .f32⟩
  | 9 => ⟨S288x32, .f32⟩
  | 10 => ⟨S_, .i32⟩
  | 11 => ⟨S_, .f32⟩
  | 12 => ⟨S288x32, .f32⟩
  | 13 => ⟨S_, .i32⟩
  | 14 => ⟨S_, .f32⟩
  | 15 => ⟨S288x32, .f32⟩
  | 16 => ⟨S_, .i32⟩
  | 17 => ⟨S_, .f32⟩
  | 18 => ⟨S288x32, .f32⟩
  | 19 => ⟨S_, .i32⟩
  | 20 => ⟨S_, .f32⟩
  | 21 => ⟨S288x32, .f32⟩
  | 22 => ⟨S_, .i32⟩
  | 23 => ⟨S_, .f32⟩
  | 24 => ⟨S288x32, .f32⟩
  | 25 => ⟨S_, .i32⟩
  | 26 => ⟨S_, .f32⟩
  | 27 => ⟨S288x32, .f32⟩
  | 28 => ⟨S_, .i32⟩
  | 29 => ⟨S_, .f32⟩
  | 30 => ⟨S288x32, .f32⟩
  | 31 => ⟨S_, .i32⟩
  | 32 => ⟨S_, .f32⟩
  | 33 => ⟨S288x32, .f32⟩
  | 34 => ⟨S_, .i32⟩
  | 35 => ⟨S_, .f32⟩
  | 36 => ⟨S288x32, .f32⟩
  | 37 => ⟨S_, .i32⟩
  | 38 => ⟨S_, .f32⟩
  | 39 => ⟨S288x32, .f32⟩
  | 40 => ⟨S_, .i32⟩
  | 41 => ⟨S_, .f32⟩
  | 42 => ⟨S288x32, .f32⟩
  | 43 => ⟨S_, .i32⟩
  | 44 => ⟨S_, .f32⟩
  | 45 => ⟨S288x32, .f32⟩
  | 46 => ⟨S_, .i32⟩
  | 47 => ⟨S_, .f32⟩
  | 48 => ⟨S288x32, .f32⟩
  | 49 => ⟨S_, .i32⟩
  | 50 => ⟨S_, .f32⟩
  | 51 => ⟨S288x32, .f32⟩
  | 52 => ⟨S_, .i32⟩
  | 53 => ⟨S_, .f32⟩
  | 54 => ⟨S288x32, .f32⟩
  | 55 => ⟨S_, .i32⟩
  | 56 => ⟨S_, .f32⟩
  | 57 => ⟨S288x32, .f32⟩
  | 58 => ⟨S_, .i32⟩
  | 59 => ⟨S_, .f32⟩
  | 60 => ⟨S288x32, .f32⟩
  | 61 => ⟨S_, .i32⟩
  | 62 => ⟨S_, .f32⟩
  | 63 => ⟨S288x32, .f32⟩
  | 64 => ⟨S_, .i32⟩
  | 65 => ⟨S_, .f32⟩
  | 66 => ⟨S288x32, .f32⟩
  | 67 => ⟨S_, .i32⟩
  | 68 => ⟨S_, .f32⟩
  | 69 => ⟨S288x32, .f32⟩
  | 70 => ⟨S_, .i32⟩
  | 71 => ⟨S_, .f32⟩
  | 72 => ⟨S288x32, .f32⟩
  | 73 => ⟨S_, .i32⟩
  | 74 => ⟨S_, .f32⟩
  | 75 => ⟨S288x32, .f32⟩
  | 76 => ⟨S_, .i32⟩
  | 77 => ⟨S_, .f32⟩
  | 78 => ⟨S288x32, .f32⟩
  | 79 => ⟨S_, .i32⟩
  | 80 => ⟨S_, .f32⟩
  | 81 => ⟨S288x32, .f32⟩
  | 82 => ⟨S_, .i32⟩
  | 83 => ⟨S_, .f32⟩
  | 84 => ⟨S288x32, .f32⟩
  | 85 => ⟨S_, .i32⟩
  | 86 => ⟨S_, .f32⟩
  | 87 => ⟨S288x32, .f32⟩
  | 88 => ⟨S_, .i32⟩
  | 89 => ⟨S_, .f32⟩
  | 90 => ⟨S288x32, .f32⟩
  | 91 => ⟨S_, .i32⟩
  | 92 => ⟨S_, .f32⟩
  | 93 => ⟨S288x32, .f32⟩
  | 94 => ⟨S_, .i32⟩
  | 95 => ⟨S_, .f32⟩
  | 96 => ⟨S288x32, .f32⟩
  | 97 => ⟨S_, .i32⟩
  | 98 => ⟨S_, .f32⟩
  | 99 => ⟨S288x32, .f32⟩
  | 100 => ⟨S_, .i32⟩
  | 101 => ⟨S_, .f32⟩
  | 102 => ⟨S288x32, .f32⟩
  | 103 => ⟨S_, .i32⟩
  | 104 => ⟨S_, .f32⟩
  | 105 => ⟨S288x32, .f32⟩
  | 106 => ⟨S_, .i32⟩
  | 107 => ⟨S_, .f32⟩
  | 108 => ⟨S288x32, .f32⟩
  | 109 => ⟨S_, .i32⟩
  | 110 => ⟨S_, .f32⟩
  | 111 => ⟨S288x32, .f32⟩
  | 112 => ⟨S_, .i32⟩
  | 113 => ⟨S_, .f32⟩
  | 114 => ⟨S288x32, .f32⟩
  | 115 => ⟨S_, .i32⟩
  | 116 => ⟨S_, .f32⟩
  | 117 => ⟨S288x32, .f32⟩
  | 118 => ⟨S_, .i32⟩
  | 119 => ⟨S_, .f32⟩
  | 120 => ⟨S288x32, .f32⟩
  | 121 => ⟨S_, .i32⟩
  | 122 => ⟨S_, .f32⟩
  | 123 => ⟨S288x32, .f32⟩
  | 124 => ⟨S_, .i32⟩
  | 125 => ⟨S_, .f32⟩
  | 126 => ⟨S288x32, .f32⟩
  | 127 => ⟨S_, .i32⟩
  | _ => ⟨S32x32768x2, .f32⟩

abbrev hbmTy0_3 (i : Nat) : BufTy := match i % 128 with
  | 0 => ⟨S_, .f32⟩
  | 1 => ⟨S288x32, .f32⟩
  | 2 => ⟨S_, .i32⟩
  | 3 => ⟨S_, .f32⟩
  | 4 => ⟨S288x32, .f32⟩
  | 5 => ⟨S_, .i32⟩
  | 6 => ⟨S_, .f32⟩
  | 7 => ⟨S288x32, .f32⟩
  | 8 => ⟨S288x32x1, .f32⟩
  | 9 => ⟨S288x32x1, .f32⟩
  | 10 => ⟨S288x32x1, .f32⟩
  | 11 => ⟨S288x32x1, .f32⟩
  | 12 => ⟨S288x32x1, .f32⟩
  | 13 => ⟨S288x32x1, .f32⟩
  | 14 => ⟨S288x32x1, .f32⟩
  | 15 => ⟨S288x32x1, .f32⟩
  | 16 => ⟨S288x32x1, .f32⟩
  | 17 => ⟨S288x32x1, .f32⟩
  | 18 => ⟨S288x32x1, .f32⟩
  | 19 => ⟨S288x32x1, .f32⟩
  | 20 => ⟨S288x32x1, .f32⟩
  | 21 => ⟨S288x32x1, .f32⟩
  | 22 => ⟨S288x32x1, .f32⟩
  | 23 => ⟨S288x32x1, .f32⟩
  | 24 => ⟨S288x32x1, .f32⟩
  | 25 => ⟨S288x32x1, .f32⟩
  | 26 => ⟨S288x32x1, .f32⟩
  | 27 => ⟨S288x32x1, .f32⟩
  | 28 => ⟨S288x32x1, .f32⟩
  | 29 => ⟨S288x32x1, .f32⟩
  | 30 => ⟨S288x32x1, .f32⟩
  | 31 => ⟨S288x32x1, .f32⟩
  | 32 => ⟨S288x32x1, .f32⟩
  | 33 => ⟨S288x32x1, .f32⟩
  | 34 => ⟨S288x32x1, .f32⟩
  | 35 => ⟨S288x32x1, .f32⟩
  | 36 => ⟨S288x32x1, .f32⟩
  | 37 => ⟨S288x32x1, .f32⟩
  | 38 => ⟨S288x32x1, .f32⟩
  | 39 => ⟨S288x32x1, .f32⟩
  | 40 => ⟨S288x32x1, .f32⟩
  | 41 => ⟨S288x32x1, .f32⟩
  | 42 => ⟨S288x32x1, .f32⟩
  | 43 => ⟨S288x32x1, .f32⟩
  | 44 => ⟨S288x32x1, .f32⟩
  | 45 => ⟨S288x32x1, .f32⟩
  | 46 => ⟨S288x32x1, .f32⟩
  | 47 => ⟨S288x32x1, .f32⟩
  | 48 => ⟨S288x32x1, .f32⟩
  | 49 => ⟨S288x32x1, .f32⟩
  | 50 => ⟨S288x32x1, .f32⟩
  | 51 => ⟨S288x32x1, .f32⟩
  | 52 => ⟨S288x32x1, .f32⟩
  | 53 => ⟨S288x32x1, .f32⟩
  | 54 => ⟨S288x32x1, .f32⟩
  | 55 => ⟨S288x32x1, .f32⟩
  | 56 => ⟨S288x32x1, .f32⟩
  | 57 => ⟨S288x32x1, .f32⟩
  | 58 => ⟨S288x32x1, .f32⟩
  | 59 => ⟨S288x32x1, .f32⟩
  | 60 => ⟨S288x32x1, .f32⟩
  | 61 => ⟨S288x32x1, .f32⟩
  | 62 => ⟨S288x32x1, .f32⟩
  | 63 => ⟨S288x32x1, .f32⟩
  | 64 => ⟨S288x32x1, .f32⟩
  | 65 => ⟨S288x32x1, .f32⟩
  | 66 => ⟨S288x32x1, .f32⟩
  | 67 => ⟨S288x32x1, .f32⟩
  | 68 => ⟨S288x32x1, .f32⟩
  | 69 => ⟨S288x32x1, .f32⟩
  | 70 => ⟨S288x32x1, .f32⟩
  | 71 => ⟨S288x32x1, .f32⟩
  | 72 => ⟨S288x32x1, .f32⟩
  | 73 => ⟨S288x32x1, .f32⟩
  | 74 => ⟨S288x32x1, .f32⟩
  | 75 => ⟨S288x32x1, .f32⟩
  | 76 => ⟨S288x32x1, .f32⟩
  | 77 => ⟨S288x32x1, .f32⟩
  | 78 => ⟨S288x32x1, .f32⟩
  | 79 => ⟨S288x32x1, .f32⟩
  | 80 => ⟨S288x32x1, .f32⟩
  | 81 => ⟨S288x32x1, .f32⟩
  | 82 => ⟨S288x32x1, .f32⟩
  | 83 => ⟨S288x32x1, .f32⟩
  | 84 => ⟨S288x32x1, .f32⟩
  | 85 => ⟨S288x32x1, .f32⟩
  | 86 => ⟨S288x32x1, .f32⟩
  | 87 => ⟨S288x32x1, .f32⟩
  | 88 => ⟨S288x32x1, .f32⟩
  | 89 => ⟨S288x32x1, .f32⟩
  | 90 => ⟨S288x32x1, .f32⟩
  | 91 => ⟨S288x32x1, .f32⟩
  | 92 => ⟨S288x32x1, .f32⟩
  | 93 => ⟨S288x32x1, .f32⟩
  | 94 => ⟨S288x32x1, .f32⟩
  | 95 => ⟨S288x32x1, .f32⟩
  | 96 => ⟨S288x32x1, .f32⟩
  | 97 => ⟨S288x32x1, .f32⟩
  | 98 => ⟨S288x32x1, .f32⟩
  | 99 => ⟨S288x32x1, .f32⟩
  | 100 => ⟨S288x32x1, .f32⟩
  | 101 => ⟨S288x32x1, .f32⟩
  | 102 => ⟨S288x32x1, .f32⟩
  | 103 => ⟨S288x32x1, .f32⟩
  | 104 => ⟨S288x32x1, .f32⟩
  | 105 => ⟨S288x32x1, .f32⟩
  | 106 => ⟨S288x32x1, .f32⟩
  | 107 => ⟨S288x32x1, .f32⟩
  | 108 => ⟨S288x32x1, .f32⟩
  | 109 => ⟨S288x32x1, .f32⟩
  | 110 => ⟨S288x32x1, .f32⟩
  | 111 => ⟨S288x32x1, .f32⟩
  | 112 => ⟨S288x32x1, .f32⟩
  | 113 => ⟨S288x32x1, .f32⟩
  | 114 => ⟨S288x32x1, .f32⟩
  | 115 => ⟨S288x32x1, .f32⟩
  | 116 => ⟨S288x32x1, .f32⟩
  | 117 => ⟨S288x32x1, .f32⟩
  | 118 => ⟨S288x32x1, .f32⟩
  | 119 => ⟨S288x32x1, .f32⟩
  | 120 => ⟨S288x32x1, .f32⟩
  | 121 => ⟨S288x32x1, .f32⟩
  | 122 => ⟨S288x32x1, .f32⟩
  | 123 => ⟨S288x32x1, .f32⟩
  | 124 => ⟨S288x32x1, .f32⟩
  | 125 => ⟨S288x32x1, .f32⟩
  | 126 => ⟨S288x32x1, .f32⟩
  | 127 => ⟨S288x32x1, .f32⟩
  | _ => ⟨S32x32768x2, .f32⟩

abbrev hbmTy0_4 (i : Nat) : BufTy := match i % 128 with
  | 0 => ⟨S288x32x1, .f32⟩
  | 1 => ⟨S288x32x1, .f32⟩
  | 2 => ⟨S288x32x1, .f32⟩
  | 3 => ⟨S288x32x1, .f32⟩
  | 4 => ⟨S288x32x1, .f32⟩
  | 5 => ⟨S288x32x1, .f32⟩
  | 6 => ⟨S288x32x1, .f32⟩
  | 7 => ⟨S288x32x1, .f32⟩
  | 8 => ⟨S288x32x16, .f32⟩
  | 9 => ⟨S288x32x16, .f32⟩
  | 10 => ⟨S288x32x16, .f32⟩
  | 11 => ⟨S288x32x16, .f32⟩
  | 12 => ⟨S288x32x16, .f32⟩
  | 13 => ⟨S288x32x16, .f32⟩
  | 14 => ⟨S288x32x16, .f32⟩
  | 15 => ⟨S288x32x16, .f32⟩
  | 16 => ⟨S288x32x128, .f32⟩
  | 17 => ⟨S288x4096, .f32⟩
  | 18 => ⟨S32x128, .f32⟩
  | 19 => ⟨S4096, .f32⟩
  | 20 => ⟨S1x4096, .f32⟩
  | 21 => ⟨S32x32x63119, .f32⟩
  | 22 => ⟨S32x63119x32, .f32⟩
  | _ => ⟨S32x32768x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S32x32768x2, .f32⟩

abbrev bufTy : (tb : Table) → Fin (tcTables nBuf tb) → BufTy
  | .hbm, ⟨i, _⟩ => hbmTy i
  | .local _ .vmem, ⟨0, _⟩ => ⟨S1x258x256, .f32⟩
  | .local _ .vmem, ⟨1, _⟩ => ⟨S1x258x256, .f32⟩
  | .local _ .vmem, ⟨2, _⟩ => ⟨S288x4096, .f32⟩
  | .local _ .vmem, ⟨3, _⟩ => ⟨S1x4096, .f32⟩
  | .local _ .vmem, ⟨4, _⟩ => ⟨S1x32x63119, .f32⟩
  | .local _ .vmem, ⟨5, _⟩ => ⟨S1x32x63119, .f32⟩
  | .local _ .vmem, ⟨6, _⟩ => ⟨S32x32768, .f32⟩
  | _, _ => ⟨S32x32768x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_c_2 : Ref sig .tc := ⟨.hbm, 14, rfl⟩
abbrev main_call3_v0 : Ref sig .tc := ⟨.hbm, 15, rfl⟩
abbrev main_v5 : Ref sig .tc := ⟨.hbm, 16, rfl⟩
abbrev main_c_3 : Ref sig .tc := ⟨.hbm, 17, rfl⟩
abbrev main_call4_v0 : Ref sig .tc := ⟨.hbm, 18, rfl⟩
abbrev main_v6 : Ref sig .tc := ⟨.hbm, 19, rfl⟩
abbrev main_c_4 : Ref sig .tc := ⟨.hbm, 20, rfl⟩
abbrev main_call5_v0 : Ref sig .tc := ⟨.hbm, 21, rfl⟩
abbrev main_v7 : Ref sig .tc := ⟨.hbm, 22, rfl⟩
abbrev main_c_5 : Ref sig .tc := ⟨.hbm, 23, rfl⟩
abbrev main_call6_v0 : Ref sig .tc := ⟨.hbm, 24, rfl⟩
abbrev main_v8 : Ref sig .tc := ⟨.hbm, 25, rfl⟩
abbrev main_c_6 : Ref sig .tc := ⟨.hbm, 26, rfl⟩
abbrev main_call7_v0 : Ref sig .tc := ⟨.hbm, 27, rfl⟩
abbrev main_v9 : Ref sig .tc := ⟨.hbm, 28, rfl⟩
abbrev main_c_7 : Ref sig .tc := ⟨.hbm, 29, rfl⟩
abbrev main_call8_v0 : Ref sig .tc := ⟨.hbm, 30, rfl⟩
abbrev main_v10 : Ref sig .tc := ⟨.hbm, 31, rfl⟩
abbrev main_c_8 : Ref sig .tc := ⟨.hbm, 32, rfl⟩
abbrev main_call9_v0 : Ref sig .tc := ⟨.hbm, 33, rfl⟩
abbrev main_v11 : Ref sig .tc := ⟨.hbm, 34, rfl⟩
abbrev main_c_9 : Ref sig .tc := ⟨.hbm, 35, rfl⟩
abbrev main_call10_v0 : Ref sig .tc := ⟨.hbm, 36, rfl⟩
abbrev main_v12 : Ref sig .tc := ⟨.hbm, 37, rfl⟩
abbrev main_c_10 : Ref sig .tc := ⟨.hbm, 38, rfl⟩
abbrev main_call11_v0 : Ref sig .tc := ⟨.hbm, 39, rfl⟩
abbrev main_v13 : Ref sig .tc := ⟨.hbm, 40, rfl⟩
abbrev main_c_11 : Ref sig .tc := ⟨.hbm, 41, rfl⟩
abbrev main_call12_v0 : Ref sig .tc := ⟨.hbm, 42, rfl⟩
abbrev main_v14 : Ref sig .tc := ⟨.hbm, 43, rfl⟩
abbrev main_c_12 : Ref sig .tc := ⟨.hbm, 44, rfl⟩
abbrev main_call13_v0 : Ref sig .tc := ⟨.hbm, 45, rfl⟩
abbrev main_v15 : Ref sig .tc := ⟨.hbm, 46, rfl⟩
abbrev main_c_13 : Ref sig .tc := ⟨.hbm, 47, rfl⟩
abbrev main_call14_v0 : Ref sig .tc := ⟨.hbm, 48, rfl⟩
abbrev main_v16 : Ref sig .tc := ⟨.hbm, 49, rfl⟩
abbrev main_c_14 : Ref sig .tc := ⟨.hbm, 50, rfl⟩
abbrev main_call15_v0 : Ref sig .tc := ⟨.hbm, 51, rfl⟩
abbrev main_v17 : Ref sig .tc := ⟨.hbm, 52, rfl⟩
abbrev main_c_15 : Ref sig .tc := ⟨.hbm, 53, rfl⟩
abbrev main_call16_v0 : Ref sig .tc := ⟨.hbm, 54, rfl⟩
abbrev main_v18 : Ref sig .tc := ⟨.hbm, 55, rfl⟩
abbrev main_c_16 : Ref sig .tc := ⟨.hbm, 56, rfl⟩
abbrev main_call17_v0 : Ref sig .tc := ⟨.hbm, 57, rfl⟩
abbrev main_v19 : Ref sig .tc := ⟨.hbm, 58, rfl⟩
abbrev main_c_17 : Ref sig .tc := ⟨.hbm, 59, rfl⟩
abbrev main_call18_v0 : Ref sig .tc := ⟨.hbm, 60, rfl⟩
abbrev main_v20 : Ref sig .tc := ⟨.hbm, 61, rfl⟩
abbrev main_c_18 : Ref sig .tc := ⟨.hbm, 62, rfl⟩
abbrev main_call19_v0 : Ref sig .tc := ⟨.hbm, 63, rfl⟩
abbrev main_v21 : Ref sig .tc := ⟨.hbm, 64, rfl⟩
abbrev main_c_19 : Ref sig .tc := ⟨.hbm, 65, rfl⟩
abbrev main_call20_v0 : Ref sig .tc := ⟨.hbm, 66, rfl⟩
abbrev main_v22 : Ref sig .tc := ⟨.hbm, 67, rfl⟩
abbrev main_c_20 : Ref sig .tc := ⟨.hbm, 68, rfl⟩
abbrev main_call21_v0 : Ref sig .tc := ⟨.hbm, 69, rfl⟩
abbrev main_v23 : Ref sig .tc := ⟨.hbm, 70, rfl⟩
abbrev main_c_21 : Ref sig .tc := ⟨.hbm, 71, rfl⟩
abbrev main_call22_v0 : Ref sig .tc := ⟨.hbm, 72, rfl⟩
abbrev main_v24 : Ref sig .tc := ⟨.hbm, 73, rfl⟩
abbrev main_c_22 : Ref sig .tc := ⟨.hbm, 74, rfl⟩
abbrev main_call23_v0 : Ref sig .tc := ⟨.hbm, 75, rfl⟩
abbrev main_v25 : Ref sig .tc := ⟨.hbm, 76, rfl⟩
abbrev main_c_23 : Ref sig .tc := ⟨.hbm, 77, rfl⟩
abbrev main_call24_v0 : Ref sig .tc := ⟨.hbm, 78, rfl⟩
abbrev main_v26 : Ref sig .tc := ⟨.hbm, 79, rfl⟩
abbrev main_c_24 : Ref sig .tc := ⟨.hbm, 80, rfl⟩
abbrev main_call25_v0 : Ref sig .tc := ⟨.hbm, 81, rfl⟩
abbrev main_v27 : Ref sig .tc := ⟨.hbm, 82, rfl⟩
abbrev main_c_25 : Ref sig .tc := ⟨.hbm, 83, rfl⟩
abbrev main_call26_v0 : Ref sig .tc := ⟨.hbm, 84, rfl⟩
abbrev main_v28 : Ref sig .tc := ⟨.hbm, 85, rfl⟩
abbrev main_c_26 : Ref sig .tc := ⟨.hbm, 86, rfl⟩
abbrev main_call27_v0 : Ref sig .tc := ⟨.hbm, 87, rfl⟩
abbrev main_v29 : Ref sig .tc := ⟨.hbm, 88, rfl⟩
abbrev main_c_27 : Ref sig .tc := ⟨.hbm, 89, rfl⟩
abbrev main_call28_v0 : Ref sig .tc := ⟨.hbm, 90, rfl⟩
abbrev main_v30 : Ref sig .tc := ⟨.hbm, 91, rfl⟩
abbrev main_c_28 : Ref sig .tc := ⟨.hbm, 92, rfl⟩
abbrev main_call29_v0 : Ref sig .tc := ⟨.hbm, 93, rfl⟩
abbrev main_v31 : Ref sig .tc := ⟨.hbm, 94, rfl⟩
abbrev main_c_29 : Ref sig .tc := ⟨.hbm, 95, rfl⟩
abbrev main_call30_v0 : Ref sig .tc := ⟨.hbm, 96, rfl⟩
abbrev main_v32 : Ref sig .tc := ⟨.hbm, 97, rfl⟩
abbrev main_c_30 : Ref sig .tc := ⟨.hbm, 98, rfl⟩
abbrev main_call31_v0 : Ref sig .tc := ⟨.hbm, 99, rfl⟩
abbrev main_v33 : Ref sig .tc := ⟨.hbm, 100, rfl⟩
abbrev main_c_31 : Ref sig .tc := ⟨.hbm, 101, rfl⟩
abbrev main_call32_v0 : Ref sig .tc := ⟨.hbm, 102, rfl⟩
abbrev main_v34 : Ref sig .tc := ⟨.hbm, 103, rfl⟩
abbrev main_c_32 : Ref sig .tc := ⟨.hbm, 104, rfl⟩
abbrev main_call33_v0 : Ref sig .tc := ⟨.hbm, 105, rfl⟩
abbrev main_v35 : Ref sig .tc := ⟨.hbm, 106, rfl⟩
abbrev main_c_33 : Ref sig .tc := ⟨.hbm, 107, rfl⟩
abbrev main_call34_v0 : Ref sig .tc := ⟨.hbm, 108, rfl⟩
abbrev main_v36 : Ref sig .tc := ⟨.hbm, 109, rfl⟩
abbrev main_c_34 : Ref sig .tc := ⟨.hbm, 110, rfl⟩
abbrev main_call35_v0 : Ref sig .tc := ⟨.hbm, 111, rfl⟩
abbrev main_v37 : Ref sig .tc := ⟨.hbm, 112, rfl⟩
abbrev main_c_35 : Ref sig .tc := ⟨.hbm, 113, rfl⟩
abbrev main_call36_v0 : Ref sig .tc := ⟨.hbm, 114, rfl⟩
abbrev main_v38 : Ref sig .tc := ⟨.hbm, 115, rfl⟩
abbrev main_c_36 : Ref sig .tc := ⟨.hbm, 116, rfl⟩
abbrev main_call37_v0 : Ref sig .tc := ⟨.hbm, 117, rfl⟩
abbrev main_v39 : Ref sig .tc := ⟨.hbm, 118, rfl⟩
abbrev main_c_37 : Ref sig .tc := ⟨.hbm, 119, rfl⟩
abbrev main_call38_v0 : Ref sig .tc := ⟨.hbm, 120, rfl⟩
abbrev main_v40 : Ref sig .tc := ⟨.hbm, 121, rfl⟩
abbrev main_c_38 : Ref sig .tc := ⟨.hbm, 122, rfl⟩
abbrev main_call39_v0 : Ref sig .tc := ⟨.hbm, 123, rfl⟩
abbrev main_v41 : Ref sig .tc := ⟨.hbm, 124, rfl⟩
abbrev main_c_39 : Ref sig .tc := ⟨.hbm, 125, rfl⟩
abbrev main_call40_v0 : Ref sig .tc := ⟨.hbm, 126, rfl⟩
abbrev main_v42 : Ref sig .tc := ⟨.hbm, 127, rfl⟩
abbrev main_c_40 : Ref sig .tc := ⟨.hbm, 128, rfl⟩
abbrev main_call41_v0 : Ref sig .tc := ⟨.hbm, 129, rfl⟩
abbrev main_v43 : Ref sig .tc := ⟨.hbm, 130, rfl⟩
abbrev main_c_41 : Ref sig .tc := ⟨.hbm, 131, rfl⟩
abbrev main_call42_v0 : Ref sig .tc := ⟨.hbm, 132, rfl⟩
abbrev main_v44 : Ref sig .tc := ⟨.hbm, 133, rfl⟩
abbrev main_c_42 : Ref sig .tc := ⟨.hbm, 134, rfl⟩
abbrev main_call43_v0 : Ref sig .tc := ⟨.hbm, 135, rfl⟩
abbrev main_v45 : Ref sig .tc := ⟨.hbm, 136, rfl⟩
abbrev main_c_43 : Ref sig .tc := ⟨.hbm, 137, rfl⟩
abbrev main_call44_v0 : Ref sig .tc := ⟨.hbm, 138, rfl⟩
abbrev main_v46 : Ref sig .tc := ⟨.hbm, 139, rfl⟩
abbrev main_c_44 : Ref sig .tc := ⟨.hbm, 140, rfl⟩
abbrev main_call45_v0 : Ref sig .tc := ⟨.hbm, 141, rfl⟩
abbrev main_v47 : Ref sig .tc := ⟨.hbm, 142, rfl⟩
abbrev main_c_45 : Ref sig .tc := ⟨.hbm, 143, rfl⟩
abbrev main_call46_v0 : Ref sig .tc := ⟨.hbm, 144, rfl⟩
abbrev main_v48 : Ref sig .tc := ⟨.hbm, 145, rfl⟩
abbrev main_c_46 : Ref sig .tc := ⟨.hbm, 146, rfl⟩
abbrev main_call47_v0 : Ref sig .tc := ⟨.hbm, 147, rfl⟩
abbrev main_v49 : Ref sig .tc := ⟨.hbm, 148, rfl⟩
abbrev main_c_47 : Ref sig .tc := ⟨.hbm, 149, rfl⟩
abbrev main_call48_v0 : Ref sig .tc := ⟨.hbm, 150, rfl⟩
abbrev main_v50 : Ref sig .tc := ⟨.hbm, 151, rfl⟩
abbrev main_c_48 : Ref sig .tc := ⟨.hbm, 152, rfl⟩
abbrev main_call49_v0 : Ref sig .tc := ⟨.hbm, 153, rfl⟩
abbrev main_v51 : Ref sig .tc := ⟨.hbm, 154, rfl⟩
abbrev main_c_49 : Ref sig .tc := ⟨.hbm, 155, rfl⟩
abbrev main_call50_v0 : Ref sig .tc := ⟨.hbm, 156, rfl⟩
abbrev main_v52 : Ref sig .tc := ⟨.hbm, 157, rfl⟩
abbrev main_c_50 : Ref sig .tc := ⟨.hbm, 158, rfl⟩
abbrev main_call51_v0 : Ref sig .tc := ⟨.hbm, 159, rfl⟩
abbrev main_v53 : Ref sig .tc := ⟨.hbm, 160, rfl⟩
abbrev main_c_51 : Ref sig .tc := ⟨.hbm, 161, rfl⟩
abbrev main_call52_v0 : Ref sig .tc := ⟨.hbm, 162, rfl⟩
abbrev main_v54 : Ref sig .tc := ⟨.hbm, 163, rfl⟩
abbrev main_c_52 : Ref sig .tc := ⟨.hbm, 164, rfl⟩
abbrev main_call53_v0 : Ref sig .tc := ⟨.hbm, 165, rfl⟩
abbrev main_v55 : Ref sig .tc := ⟨.hbm, 166, rfl⟩
abbrev main_c_53 : Ref sig .tc := ⟨.hbm, 167, rfl⟩
abbrev main_call54_v0 : Ref sig .tc := ⟨.hbm, 168, rfl⟩
abbrev main_v56 : Ref sig .tc := ⟨.hbm, 169, rfl⟩
abbrev main_c_54 : Ref sig .tc := ⟨.hbm, 170, rfl⟩
abbrev main_call55_v0 : Ref sig .tc := ⟨.hbm, 171, rfl⟩
abbrev main_v57 : Ref sig .tc := ⟨.hbm, 172, rfl⟩
abbrev main_c_55 : Ref sig .tc := ⟨.hbm, 173, rfl⟩
abbrev main_call56_v0 : Ref sig .tc := ⟨.hbm, 174, rfl⟩
abbrev main_v58 : Ref sig .tc := ⟨.hbm, 175, rfl⟩
abbrev main_c_56 : Ref sig .tc := ⟨.hbm, 176, rfl⟩
abbrev main_call57_v0 : Ref sig .tc := ⟨.hbm, 177, rfl⟩
abbrev main_v59 : Ref sig .tc := ⟨.hbm, 178, rfl⟩
abbrev main_c_57 : Ref sig .tc := ⟨.hbm, 179, rfl⟩
abbrev main_call58_v0 : Ref sig .tc := ⟨.hbm, 180, rfl⟩
abbrev main_v60 : Ref sig .tc := ⟨.hbm, 181, rfl⟩
abbrev main_c_58 : Ref sig .tc := ⟨.hbm, 182, rfl⟩
abbrev main_call59_v0 : Ref sig .tc := ⟨.hbm, 183, rfl⟩
abbrev main_v61 : Ref sig .tc := ⟨.hbm, 184, rfl⟩
abbrev main_c_59 : Ref sig .tc := ⟨.hbm, 185, rfl⟩
abbrev main_call60_v0 : Ref sig .tc := ⟨.hbm, 186, rfl⟩
abbrev main_v62 : Ref sig .tc := ⟨.hbm, 187, rfl⟩
abbrev main_c_60 : Ref sig .tc := ⟨.hbm, 188, rfl⟩
abbrev main_call61_v0 : Ref sig .tc := ⟨.hbm, 189, rfl⟩
abbrev main_v63 : Ref sig .tc := ⟨.hbm, 190, rfl⟩
abbrev main_c_61 : Ref sig .tc := ⟨.hbm, 191, rfl⟩
abbrev main_call62_v0 : Ref sig .tc := ⟨.hbm, 192, rfl⟩
abbrev main_v64 : Ref sig .tc := ⟨.hbm, 193, rfl⟩
abbrev main_c_62 : Ref sig .tc := ⟨.hbm, 194, rfl⟩
abbrev main_call63_v0 : Ref sig .tc := ⟨.hbm, 195, rfl⟩
abbrev main_v65 : Ref sig .tc := ⟨.hbm, 196, rfl⟩
abbrev main_c_63 : Ref sig .tc := ⟨.hbm, 197, rfl⟩
abbrev main_call64_v0 : Ref sig .tc := ⟨.hbm, 198, rfl⟩
abbrev main_v66 : Ref sig .tc := ⟨.hbm, 199, rfl⟩
abbrev main_c_64 : Ref sig .tc := ⟨.hbm, 200, rfl⟩
abbrev main_call65_v0 : Ref sig .tc := ⟨.hbm, 201, rfl⟩
abbrev main_v67 : Ref sig .tc := ⟨.hbm, 202, rfl⟩
abbrev main_c_65 : Ref sig .tc := ⟨.hbm, 203, rfl⟩
abbrev main_call66_v0 : Ref sig .tc := ⟨.hbm, 204, rfl⟩
abbrev main_v68 : Ref sig .tc := ⟨.hbm, 205, rfl⟩
abbrev main_c_66 : Ref sig .tc := ⟨.hbm, 206, rfl⟩
abbrev main_call67_v0 : Ref sig .tc := ⟨.hbm, 207, rfl⟩
abbrev main_v69 : Ref sig .tc := ⟨.hbm, 208, rfl⟩
abbrev main_c_67 : Ref sig .tc := ⟨.hbm, 209, rfl⟩
abbrev main_call68_v0 : Ref sig .tc := ⟨.hbm, 210, rfl⟩
abbrev main_v70 : Ref sig .tc := ⟨.hbm, 211, rfl⟩
abbrev main_c_68 : Ref sig .tc := ⟨.hbm, 212, rfl⟩
abbrev main_call69_v0 : Ref sig .tc := ⟨.hbm, 213, rfl⟩
abbrev main_v71 : Ref sig .tc := ⟨.hbm, 214, rfl⟩
abbrev main_c_69 : Ref sig .tc := ⟨.hbm, 215, rfl⟩
abbrev main_call70_v0 : Ref sig .tc := ⟨.hbm, 216, rfl⟩
abbrev main_v72 : Ref sig .tc := ⟨.hbm, 217, rfl⟩
abbrev main_c_70 : Ref sig .tc := ⟨.hbm, 218, rfl⟩
abbrev main_call71_v0 : Ref sig .tc := ⟨.hbm, 219, rfl⟩
abbrev main_v73 : Ref sig .tc := ⟨.hbm, 220, rfl⟩
abbrev main_c_71 : Ref sig .tc := ⟨.hbm, 221, rfl⟩
abbrev main_call72_v0 : Ref sig .tc := ⟨.hbm, 222, rfl⟩
abbrev main_v74 : Ref sig .tc := ⟨.hbm, 223, rfl⟩
abbrev main_c_72 : Ref sig .tc := ⟨.hbm, 224, rfl⟩
abbrev main_call73_v0 : Ref sig .tc := ⟨.hbm, 225, rfl⟩
abbrev main_v75 : Ref sig .tc := ⟨.hbm, 226, rfl⟩
abbrev main_c_73 : Ref sig .tc := ⟨.hbm, 227, rfl⟩
abbrev main_call74_v0 : Ref sig .tc := ⟨.hbm, 228, rfl⟩
abbrev main_v76 : Ref sig .tc := ⟨.hbm, 229, rfl⟩
abbrev main_c_74 : Ref sig .tc := ⟨.hbm, 230, rfl⟩
abbrev main_call75_v0 : Ref sig .tc := ⟨.hbm, 231, rfl⟩
abbrev main_v77 : Ref sig .tc := ⟨.hbm, 232, rfl⟩
abbrev main_c_75 : Ref sig .tc := ⟨.hbm, 233, rfl⟩
abbrev main_call76_v0 : Ref sig .tc := ⟨.hbm, 234, rfl⟩
abbrev main_v78 : Ref sig .tc := ⟨.hbm, 235, rfl⟩
abbrev main_c_76 : Ref sig .tc := ⟨.hbm, 236, rfl⟩
abbrev main_call77_v0 : Ref sig .tc := ⟨.hbm, 237, rfl⟩
abbrev main_v79 : Ref sig .tc := ⟨.hbm, 238, rfl⟩
abbrev main_c_77 : Ref sig .tc := ⟨.hbm, 239, rfl⟩
abbrev main_call78_v0 : Ref sig .tc := ⟨.hbm, 240, rfl⟩
abbrev main_v80 : Ref sig .tc := ⟨.hbm, 241, rfl⟩
abbrev main_c_78 : Ref sig .tc := ⟨.hbm, 242, rfl⟩
abbrev main_call79_v0 : Ref sig .tc := ⟨.hbm, 243, rfl⟩
abbrev main_v81 : Ref sig .tc := ⟨.hbm, 244, rfl⟩
abbrev main_c_79 : Ref sig .tc := ⟨.hbm, 245, rfl⟩
abbrev main_call80_v0 : Ref sig .tc := ⟨.hbm, 246, rfl⟩
abbrev main_v82 : Ref sig .tc := ⟨.hbm, 247, rfl⟩
abbrev main_c_80 : Ref sig .tc := ⟨.hbm, 248, rfl⟩
abbrev main_call81_v0 : Ref sig .tc := ⟨.hbm, 249, rfl⟩
abbrev main_v83 : Ref sig .tc := ⟨.hbm, 250, rfl⟩
abbrev main_c_81 : Ref sig .tc := ⟨.hbm, 251, rfl⟩
abbrev main_call82_v0 : Ref sig .tc := ⟨.hbm, 252, rfl⟩
abbrev main_v84 : Ref sig .tc := ⟨.hbm, 253, rfl⟩
abbrev main_c_82 : Ref sig .tc := ⟨.hbm, 254, rfl⟩
abbrev main_call83_v0 : Ref sig .tc := ⟨.hbm, 255, rfl⟩
abbrev main_v85 : Ref sig .tc := ⟨.hbm, 256, rfl⟩
abbrev main_c_83 : Ref sig .tc := ⟨.hbm, 257, rfl⟩
abbrev main_call84_v0 : Ref sig .tc := ⟨.hbm, 258, rfl⟩
abbrev main_v86 : Ref sig .tc := ⟨.hbm, 259, rfl⟩
abbrev main_c_84 : Ref sig .tc := ⟨.hbm, 260, rfl⟩
abbrev main_call85_v0 : Ref sig .tc := ⟨.hbm, 261, rfl⟩
abbrev main_v87 : Ref sig .tc := ⟨.hbm, 262, rfl⟩
abbrev main_c_85 : Ref sig .tc := ⟨.hbm, 263, rfl⟩
abbrev main_call86_v0 : Ref sig .tc := ⟨.hbm, 264, rfl⟩
abbrev main_v88 : Ref sig .tc := ⟨.hbm, 265, rfl⟩
abbrev main_c_86 : Ref sig .tc := ⟨.hbm, 266, rfl⟩
abbrev main_call87_v0 : Ref sig .tc := ⟨.hbm, 267, rfl⟩
abbrev main_v89 : Ref sig .tc := ⟨.hbm, 268, rfl⟩
abbrev main_c_87 : Ref sig .tc := ⟨.hbm, 269, rfl⟩
abbrev main_call88_v0 : Ref sig .tc := ⟨.hbm, 270, rfl⟩
abbrev main_v90 : Ref sig .tc := ⟨.hbm, 271, rfl⟩
abbrev main_c_88 : Ref sig .tc := ⟨.hbm, 272, rfl⟩
abbrev main_call89_v0 : Ref sig .tc := ⟨.hbm, 273, rfl⟩
abbrev main_v91 : Ref sig .tc := ⟨.hbm, 274, rfl⟩
abbrev main_c_89 : Ref sig .tc := ⟨.hbm, 275, rfl⟩
abbrev main_call90_v0 : Ref sig .tc := ⟨.hbm, 276, rfl⟩
abbrev main_v92 : Ref sig .tc := ⟨.hbm, 277, rfl⟩
abbrev main_c_90 : Ref sig .tc := ⟨.hbm, 278, rfl⟩
abbrev main_call91_v0 : Ref sig .tc := ⟨.hbm, 279, rfl⟩
abbrev main_v93 : Ref sig .tc := ⟨.hbm, 280, rfl⟩
abbrev main_c_91 : Ref sig .tc := ⟨.hbm, 281, rfl⟩
abbrev main_call92_v0 : Ref sig .tc := ⟨.hbm, 282, rfl⟩
abbrev main_v94 : Ref sig .tc := ⟨.hbm, 283, rfl⟩
abbrev main_c_92 : Ref sig .tc := ⟨.hbm, 284, rfl⟩
abbrev main_call93_v0 : Ref sig .tc := ⟨.hbm, 285, rfl⟩
abbrev main_v95 : Ref sig .tc := ⟨.hbm, 286, rfl⟩
abbrev main_c_93 : Ref sig .tc := ⟨.hbm, 287, rfl⟩
abbrev main_call94_v0 : Ref sig .tc := ⟨.hbm, 288, rfl⟩
abbrev main_v96 : Ref sig .tc := ⟨.hbm, 289, rfl⟩
abbrev main_c_94 : Ref sig .tc := ⟨.hbm, 290, rfl⟩
abbrev main_call95_v0 : Ref sig .tc := ⟨.hbm, 291, rfl⟩
abbrev main_v97 : Ref sig .tc := ⟨.hbm, 292, rfl⟩
abbrev main_c_95 : Ref sig .tc := ⟨.hbm, 293, rfl⟩
abbrev main_call96_v0 : Ref sig .tc := ⟨.hbm, 294, rfl⟩
abbrev main_v98 : Ref sig .tc := ⟨.hbm, 295, rfl⟩
abbrev main_c_96 : Ref sig .tc := ⟨.hbm, 296, rfl⟩
abbrev main_call97_v0 : Ref sig .tc := ⟨.hbm, 297, rfl⟩
abbrev main_v99 : Ref sig .tc := ⟨.hbm, 298, rfl⟩
abbrev main_c_97 : Ref sig .tc := ⟨.hbm, 299, rfl⟩
abbrev main_call98_v0 : Ref sig .tc := ⟨.hbm, 300, rfl⟩
abbrev main_v100 : Ref sig .tc := ⟨.hbm, 301, rfl⟩
abbrev main_c_98 : Ref sig .tc := ⟨.hbm, 302, rfl⟩
abbrev main_call99_v0 : Ref sig .tc := ⟨.hbm, 303, rfl⟩
abbrev main_v101 : Ref sig .tc := ⟨.hbm, 304, rfl⟩
abbrev main_c_99 : Ref sig .tc := ⟨.hbm, 305, rfl⟩
abbrev main_call100_v0 : Ref sig .tc := ⟨.hbm, 306, rfl⟩
abbrev main_v102 : Ref sig .tc := ⟨.hbm, 307, rfl⟩
abbrev main_c_100 : Ref sig .tc := ⟨.hbm, 308, rfl⟩
abbrev main_call101_v0 : Ref sig .tc := ⟨.hbm, 309, rfl⟩
abbrev main_v103 : Ref sig .tc := ⟨.hbm, 310, rfl⟩
abbrev main_c_101 : Ref sig .tc := ⟨.hbm, 311, rfl⟩
abbrev main_call102_v0 : Ref sig .tc := ⟨.hbm, 312, rfl⟩
abbrev main_v104 : Ref sig .tc := ⟨.hbm, 313, rfl⟩
abbrev main_c_102 : Ref sig .tc := ⟨.hbm, 314, rfl⟩
abbrev main_call103_v0 : Ref sig .tc := ⟨.hbm, 315, rfl⟩
abbrev main_v105 : Ref sig .tc := ⟨.hbm, 316, rfl⟩
abbrev main_c_103 : Ref sig .tc := ⟨.hbm, 317, rfl⟩
abbrev main_call104_v0 : Ref sig .tc := ⟨.hbm, 318, rfl⟩
abbrev main_v106 : Ref sig .tc := ⟨.hbm, 319, rfl⟩
abbrev main_c_104 : Ref sig .tc := ⟨.hbm, 320, rfl⟩
abbrev main_call105_v0 : Ref sig .tc := ⟨.hbm, 321, rfl⟩
abbrev main_v107 : Ref sig .tc := ⟨.hbm, 322, rfl⟩
abbrev main_c_105 : Ref sig .tc := ⟨.hbm, 323, rfl⟩
abbrev main_call106_v0 : Ref sig .tc := ⟨.hbm, 324, rfl⟩
abbrev main_v108 : Ref sig .tc := ⟨.hbm, 325, rfl⟩
abbrev main_c_106 : Ref sig .tc := ⟨.hbm, 326, rfl⟩
abbrev main_call107_v0 : Ref sig .tc := ⟨.hbm, 327, rfl⟩
abbrev main_v109 : Ref sig .tc := ⟨.hbm, 328, rfl⟩
abbrev main_c_107 : Ref sig .tc := ⟨.hbm, 329, rfl⟩
abbrev main_call108_v0 : Ref sig .tc := ⟨.hbm, 330, rfl⟩
abbrev main_v110 : Ref sig .tc := ⟨.hbm, 331, rfl⟩
abbrev main_c_108 : Ref sig .tc := ⟨.hbm, 332, rfl⟩
abbrev main_call109_v0 : Ref sig .tc := ⟨.hbm, 333, rfl⟩
abbrev main_v111 : Ref sig .tc := ⟨.hbm, 334, rfl⟩
abbrev main_c_109 : Ref sig .tc := ⟨.hbm, 335, rfl⟩
abbrev main_call110_v0 : Ref sig .tc := ⟨.hbm, 336, rfl⟩
abbrev main_v112 : Ref sig .tc := ⟨.hbm, 337, rfl⟩
abbrev main_c_110 : Ref sig .tc := ⟨.hbm, 338, rfl⟩
abbrev main_call111_v0 : Ref sig .tc := ⟨.hbm, 339, rfl⟩
abbrev main_v113 : Ref sig .tc := ⟨.hbm, 340, rfl⟩
abbrev main_c_111 : Ref sig .tc := ⟨.hbm, 341, rfl⟩
abbrev main_call112_v0 : Ref sig .tc := ⟨.hbm, 342, rfl⟩
abbrev main_v114 : Ref sig .tc := ⟨.hbm, 343, rfl⟩
abbrev main_c_112 : Ref sig .tc := ⟨.hbm, 344, rfl⟩
abbrev main_call113_v0 : Ref sig .tc := ⟨.hbm, 345, rfl⟩
abbrev main_v115 : Ref sig .tc := ⟨.hbm, 346, rfl⟩
abbrev main_c_113 : Ref sig .tc := ⟨.hbm, 347, rfl⟩
abbrev main_call114_v0 : Ref sig .tc := ⟨.hbm, 348, rfl⟩
abbrev main_v116 : Ref sig .tc := ⟨.hbm, 349, rfl⟩
abbrev main_c_114 : Ref sig .tc := ⟨.hbm, 350, rfl⟩
abbrev main_call115_v0 : Ref sig .tc := ⟨.hbm, 351, rfl⟩
abbrev main_v117 : Ref sig .tc := ⟨.hbm, 352, rfl⟩
abbrev main_c_115 : Ref sig .tc := ⟨.hbm, 353, rfl⟩
abbrev main_call116_v0 : Ref sig .tc := ⟨.hbm, 354, rfl⟩
abbrev main_v118 : Ref sig .tc := ⟨.hbm, 355, rfl⟩
abbrev main_c_116 : Ref sig .tc := ⟨.hbm, 356, rfl⟩
abbrev main_call117_v0 : Ref sig .tc := ⟨.hbm, 357, rfl⟩
abbrev main_v119 : Ref sig .tc := ⟨.hbm, 358, rfl⟩
abbrev main_c_117 : Ref sig .tc := ⟨.hbm, 359, rfl⟩
abbrev main_call118_v0 : Ref sig .tc := ⟨.hbm, 360, rfl⟩
abbrev main_v120 : Ref sig .tc := ⟨.hbm, 361, rfl⟩
abbrev main_c_118 : Ref sig .tc := ⟨.hbm, 362, rfl⟩
abbrev main_call119_v0 : Ref sig .tc := ⟨.hbm, 363, rfl⟩
abbrev main_v121 : Ref sig .tc := ⟨.hbm, 364, rfl⟩
abbrev main_c_119 : Ref sig .tc := ⟨.hbm, 365, rfl⟩
abbrev main_call120_v0 : Ref sig .tc := ⟨.hbm, 366, rfl⟩
abbrev main_v122 : Ref sig .tc := ⟨.hbm, 367, rfl⟩
abbrev main_c_120 : Ref sig .tc := ⟨.hbm, 368, rfl⟩
abbrev main_call121_v0 : Ref sig .tc := ⟨.hbm, 369, rfl⟩
abbrev main_v123 : Ref sig .tc := ⟨.hbm, 370, rfl⟩
abbrev main_c_121 : Ref sig .tc := ⟨.hbm, 371, rfl⟩
abbrev main_call122_v0 : Ref sig .tc := ⟨.hbm, 372, rfl⟩
abbrev main_v124 : Ref sig .tc := ⟨.hbm, 373, rfl⟩
abbrev main_c_122 : Ref sig .tc := ⟨.hbm, 374, rfl⟩
abbrev main_call123_v0 : Ref sig .tc := ⟨.hbm, 375, rfl⟩
abbrev main_v125 : Ref sig .tc := ⟨.hbm, 376, rfl⟩
abbrev main_c_123 : Ref sig .tc := ⟨.hbm, 377, rfl⟩
abbrev main_call124_v0 : Ref sig .tc := ⟨.hbm, 378, rfl⟩
abbrev main_v126 : Ref sig .tc := ⟨.hbm, 379, rfl⟩
abbrev main_c_124 : Ref sig .tc := ⟨.hbm, 380, rfl⟩
abbrev main_call125_v0 : Ref sig .tc := ⟨.hbm, 381, rfl⟩
abbrev main_v127 : Ref sig .tc := ⟨.hbm, 382, rfl⟩
abbrev main_c_125 : Ref sig .tc := ⟨.hbm, 383, rfl⟩
abbrev main_call126_v0 : Ref sig .tc := ⟨.hbm, 384, rfl⟩
abbrev main_v128 : Ref sig .tc := ⟨.hbm, 385, rfl⟩
abbrev main_c_126 : Ref sig .tc := ⟨.hbm, 386, rfl⟩
abbrev main_call127_v0 : Ref sig .tc := ⟨.hbm, 387, rfl⟩
abbrev main_v129 : Ref sig .tc := ⟨.hbm, 388, rfl⟩
abbrev main_c_127 : Ref sig .tc := ⟨.hbm, 389, rfl⟩
abbrev main_call128_v0 : Ref sig .tc := ⟨.hbm, 390, rfl⟩
abbrev main_v130 : Ref sig .tc := ⟨.hbm, 391, rfl⟩
abbrev main_v131 : Ref sig .tc := ⟨.hbm, 392, rfl⟩
abbrev main_v132 : Ref sig .tc := ⟨.hbm, 393, rfl⟩
abbrev main_v133 : Ref sig .tc := ⟨.hbm, 394, rfl⟩
abbrev main_v134 : Ref sig .tc := ⟨.hbm, 395, rfl⟩
abbrev main_v135 : Ref sig .tc := ⟨.hbm, 396, rfl⟩
abbrev main_v136 : Ref sig .tc := ⟨.hbm, 397, rfl⟩
abbrev main_v137 : Ref sig .tc := ⟨.hbm, 398, rfl⟩
abbrev main_v138 : Ref sig .tc := ⟨.hbm, 399, rfl⟩
abbrev main_v139 : Ref sig .tc := ⟨.hbm, 400, rfl⟩
abbrev main_v140 : Ref sig .tc := ⟨.hbm, 401, rfl⟩
abbrev main_v141 : Ref sig .tc := ⟨.hbm, 402, rfl⟩
abbrev main_v142 : Ref sig .tc := ⟨.hbm, 403, rfl⟩
abbrev main_v143 : Ref sig .tc := ⟨.hbm, 404, rfl⟩
abbrev main_v144 : Ref sig .tc := ⟨.hbm, 405, rfl⟩
abbrev main_v145 : Ref sig .tc := ⟨.hbm, 406, rfl⟩
abbrev main_v146 : Ref sig .tc := ⟨.hbm, 407, rfl⟩
abbrev main_v147 : Ref sig .tc := ⟨.hbm, 408, rfl⟩
abbrev main_v148 : Ref sig .tc := ⟨.hbm, 409, rfl⟩
abbrev main_v149 : Ref sig .tc := ⟨.hbm, 410, rfl⟩
abbrev main_v150 : Ref sig .tc := ⟨.hbm, 411, rfl⟩
abbrev main_v151 : Ref sig .tc := ⟨.hbm, 412, rfl⟩
abbrev main_v152 : Ref sig .tc := ⟨.hbm, 413, rfl⟩
abbrev main_v153 : Ref sig .tc := ⟨.hbm, 414, rfl⟩
abbrev main_v154 : Ref sig .tc := ⟨.hbm, 415, rfl⟩
abbrev main_v155 : Ref sig .tc := ⟨.hbm, 416, rfl⟩
abbrev main_v156 : Ref sig .tc := ⟨.hbm, 417, rfl⟩
abbrev main_v157 : Ref sig .tc := ⟨.hbm, 418, rfl⟩
abbrev main_v158 : Ref sig .tc := ⟨.hbm, 419, rfl⟩
abbrev main_v159 : Ref sig .tc := ⟨.hbm, 420, rfl⟩
abbrev main_v160 : Ref sig .tc := ⟨.hbm, 421, rfl⟩
abbrev main_v161 : Ref sig .tc := ⟨.hbm, 422, rfl⟩
abbrev main_v162 : Ref sig .tc := ⟨.hbm, 423, rfl⟩
abbrev main_v163 : Ref sig .tc := ⟨.hbm, 424, rfl⟩
abbrev main_v164 : Ref sig .tc := ⟨.hbm, 425, rfl⟩
abbrev main_v165 : Ref sig .tc := ⟨.hbm, 426, rfl⟩
abbrev main_v166 : Ref sig .tc := ⟨.hbm, 427, rfl⟩
abbrev main_v167 : Ref sig .tc := ⟨.hbm, 428, rfl⟩
abbrev main_v168 : Ref sig .tc := ⟨.hbm, 429, rfl⟩
abbrev main_v169 : Ref sig .tc := ⟨.hbm, 430, rfl⟩
abbrev main_v170 : Ref sig .tc := ⟨.hbm, 431, rfl⟩
abbrev main_v171 : Ref sig .tc := ⟨.hbm, 432, rfl⟩
abbrev main_v172 : Ref sig .tc := ⟨.hbm, 433, rfl⟩
abbrev main_v173 : Ref sig .tc := ⟨.hbm, 434, rfl⟩
abbrev main_v174 : Ref sig .tc := ⟨.hbm, 435, rfl⟩
abbrev main_v175 : Ref sig .tc := ⟨.hbm, 436, rfl⟩
abbrev main_v176 : Ref sig .tc := ⟨.hbm, 437, rfl⟩
abbrev main_v177 : Ref sig .tc := ⟨.hbm, 438, rfl⟩
abbrev main_v178 : Ref sig .tc := ⟨.hbm, 439, rfl⟩
abbrev main_v179 : Ref sig .tc := ⟨.hbm, 440, rfl⟩
abbrev main_v180 : Ref sig .tc := ⟨.hbm, 441, rfl⟩
abbrev main_v181 : Ref sig .tc := ⟨.hbm, 442, rfl⟩
abbrev main_v182 : Ref sig .tc := ⟨.hbm, 443, rfl⟩
abbrev main_v183 : Ref sig .tc := ⟨.hbm, 444, rfl⟩
abbrev main_v184 : Ref sig .tc := ⟨.hbm, 445, rfl⟩
abbrev main_v185 : Ref sig .tc := ⟨.hbm, 446, rfl⟩
abbrev main_v186 : Ref sig .tc := ⟨.hbm, 447, rfl⟩
abbrev main_v187 : Ref sig .tc := ⟨.hbm, 448, rfl⟩
abbrev main_v188 : Ref sig .tc := ⟨.hbm, 449, rfl⟩
abbrev main_v189 : Ref sig .tc := ⟨.hbm, 450, rfl⟩
abbrev main_v190 : Ref sig .tc := ⟨.hbm, 451, rfl⟩
abbrev main_v191 : Ref sig .tc := ⟨.hbm, 452, rfl⟩
abbrev main_v192 : Ref sig .tc := ⟨.hbm, 453, rfl⟩
abbrev main_v193 : Ref sig .tc := ⟨.hbm, 454, rfl⟩
abbrev main_v194 : Ref sig .tc := ⟨.hbm, 455, rfl⟩
abbrev main_v195 : Ref sig .tc := ⟨.hbm, 456, rfl⟩
abbrev main_v196 : Ref sig .tc := ⟨.hbm, 457, rfl⟩
abbrev main_v197 : Ref sig .tc := ⟨.hbm, 458, rfl⟩
abbrev main_v198 : Ref sig .tc := ⟨.hbm, 459, rfl⟩
abbrev main_v199 : Ref sig .tc := ⟨.hbm, 460, rfl⟩
abbrev main_v200 : Ref sig .tc := ⟨.hbm, 461, rfl⟩
abbrev main_v201 : Ref sig .tc := ⟨.hbm, 462, rfl⟩
abbrev main_v202 : Ref sig .tc := ⟨.hbm, 463, rfl⟩
abbrev main_v203 : Ref sig .tc := ⟨.hbm, 464, rfl⟩
abbrev main_v204 : Ref sig .tc := ⟨.hbm, 465, rfl⟩
abbrev main_v205 : Ref sig .tc := ⟨.hbm, 466, rfl⟩
abbrev main_v206 : Ref sig .tc := ⟨.hbm, 467, rfl⟩
abbrev main_v207 : Ref sig .tc := ⟨.hbm, 468, rfl⟩
abbrev main_v208 : Ref sig .tc := ⟨.hbm, 469, rfl⟩
abbrev main_v209 : Ref sig .tc := ⟨.hbm, 470, rfl⟩
abbrev main_v210 : Ref sig .tc := ⟨.hbm, 471, rfl⟩
abbrev main_v211 : Ref sig .tc := ⟨.hbm, 472, rfl⟩
abbrev main_v212 : Ref sig .tc := ⟨.hbm, 473, rfl⟩
abbrev main_v213 : Ref sig .tc := ⟨.hbm, 474, rfl⟩
abbrev main_v214 : Ref sig .tc := ⟨.hbm, 475, rfl⟩
abbrev main_v215 : Ref sig .tc := ⟨.hbm, 476, rfl⟩
abbrev main_v216 : Ref sig .tc := ⟨.hbm, 477, rfl⟩
abbrev main_v217 : Ref sig .tc := ⟨.hbm, 478, rfl⟩
abbrev main_v218 : Ref sig .tc := ⟨.hbm, 479, rfl⟩
abbrev main_v219 : Ref sig .tc := ⟨.hbm, 480, rfl⟩
abbrev main_v220 : Ref sig .tc := ⟨.hbm, 481, rfl⟩
abbrev main_v221 : Ref sig .tc := ⟨.hbm, 482, rfl⟩
abbrev main_v222 : Ref sig .tc := ⟨.hbm, 483, rfl⟩
abbrev main_v223 : Ref sig .tc := ⟨.hbm, 484, rfl⟩
abbrev main_v224 : Ref sig .tc := ⟨.hbm, 485, rfl⟩
abbrev main_v225 : Ref sig .tc := ⟨.hbm, 486, rfl⟩
abbrev main_v226 : Ref sig .tc := ⟨.hbm, 487, rfl⟩
abbrev main_v227 : Ref sig .tc := ⟨.hbm, 488, rfl⟩
abbrev main_v228 : Ref sig .tc := ⟨.hbm, 489, rfl⟩
abbrev main_v229 : Ref sig .tc := ⟨.hbm, 490, rfl⟩
abbrev main_v230 : Ref sig .tc := ⟨.hbm, 491, rfl⟩
abbrev main_v231 : Ref sig .tc := ⟨.hbm, 492, rfl⟩
abbrev main_v232 : Ref sig .tc := ⟨.hbm, 493, rfl⟩
abbrev main_v233 : Ref sig .tc := ⟨.hbm, 494, rfl⟩
abbrev main_v234 : Ref sig .tc := ⟨.hbm, 495, rfl⟩
abbrev main_v235 : Ref sig .tc := ⟨.hbm, 496, rfl⟩
abbrev main_v236 : Ref sig .tc := ⟨.hbm, 497, rfl⟩
abbrev main_v237 : Ref sig .tc := ⟨.hbm, 498, rfl⟩
abbrev main_v238 : Ref sig .tc := ⟨.hbm, 499, rfl⟩
abbrev main_v239 : Ref sig .tc := ⟨.hbm, 500, rfl⟩
abbrev main_v240 : Ref sig .tc := ⟨.hbm, 501, rfl⟩
abbrev main_v241 : Ref sig .tc := ⟨.hbm, 502, rfl⟩
abbrev main_v242 : Ref sig .tc := ⟨.hbm, 503, rfl⟩
abbrev main_v243 : Ref sig .tc := ⟨.hbm, 504, rfl⟩
abbrev main_v244 : Ref sig .tc := ⟨.hbm, 505, rfl⟩
abbrev main_v245 : Ref sig .tc := ⟨.hbm, 506, rfl⟩
abbrev main_v246 : Ref sig .tc := ⟨.hbm, 507, rfl⟩
abbrev main_v247 : Ref sig .tc := ⟨.hbm, 508, rfl⟩
abbrev main_v248 : Ref sig .tc := ⟨.hbm, 509, rfl⟩
abbrev main_v249 : Ref sig .tc := ⟨.hbm, 510, rfl⟩
abbrev main_v250 : Ref sig .tc := ⟨.hbm, 511, rfl⟩
abbrev main_v251 : Ref sig .tc := ⟨.hbm, 512, rfl⟩
abbrev main_v252 : Ref sig .tc := ⟨.hbm, 513, rfl⟩
abbrev main_v253 : Ref sig .tc := ⟨.hbm, 514, rfl⟩
abbrev main_v254 : Ref sig .tc := ⟨.hbm, 515, rfl⟩
abbrev main_v255 : Ref sig .tc := ⟨.hbm, 516, rfl⟩
abbrev main_v256 : Ref sig .tc := ⟨.hbm, 517, rfl⟩
abbrev main_v257 : Ref sig .tc := ⟨.hbm, 518, rfl⟩
abbrev main_v258 : Ref sig .tc := ⟨.hbm, 519, rfl⟩
abbrev main_v259 : Ref sig .tc := ⟨.hbm, 520, rfl⟩
abbrev main_v260 : Ref sig .tc := ⟨.hbm, 521, rfl⟩
abbrev main_v261 : Ref sig .tc := ⟨.hbm, 522, rfl⟩
abbrev main_v262 : Ref sig .tc := ⟨.hbm, 523, rfl⟩
abbrev main_v263 : Ref sig .tc := ⟨.hbm, 524, rfl⟩
abbrev main_v264 : Ref sig .tc := ⟨.hbm, 525, rfl⟩
abbrev main_v265 : Ref sig .tc := ⟨.hbm, 526, rfl⟩
abbrev main_v266 : Ref sig .tc := ⟨.hbm, 527, rfl⟩
abbrev main_v267 : Ref sig .tc := ⟨.hbm, 528, rfl⟩
abbrev main_v268 : Ref sig .tc := ⟨.hbm, 529, rfl⟩
abbrev main_v269 : Ref sig .tc := ⟨.hbm, 530, rfl⟩
abbrev main_v270 : Ref sig .tc := ⟨.hbm, 531, rfl⟩
abbrev main_v271 : Ref sig .tc := ⟨.hbm, 532, rfl⟩
abbrev main_v272 : Ref sig .tc := ⟨.hbm, 533, rfl⟩
abbrev main_v273 : Ref sig .tc := ⟨.hbm, 534, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x258x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S288x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x32x63119 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S32x32768x2 : Shape := ⟨3, ![32, 32768, 2]⟩
abbrev S16x2x32 : Shape := ⟨3, ![16, 2, 32]⟩
abbrev S32 : Shape := ⟨1, ![32]⟩
abbrev S127 : Shape := ⟨1, ![127]⟩
abbrev S_ : Shape := ⟨0, ![]⟩
abbrev S127x1 : Shape := ⟨2, ![127, 1]⟩
abbrev S512 : Shape := ⟨1, ![512]⟩
abbrev S1x512 : Shape := ⟨2, ![1, 512]⟩
abbrev S127x512 : Shape := ⟨2, ![127, 512]⟩
abbrev S127x512x1 : Shape := ⟨3, ![127, 512, 1]⟩
abbrev S32x127x512x2 : Shape := ⟨4, ![32, 127, 512, 2]⟩
abbrev S4064x512x2 : Shape := ⟨3, ![4064, 512, 2]⟩
abbrev S497 : Shape := ⟨1, ![497]⟩
abbrev S497x1 : Shape := ⟨2, ![497, 1]⟩
abbrev S16 : Shape := ⟨1, ![16]⟩
abbrev S1x16 : Shape := ⟨2, ![1, 16]⟩
abbrev S497x16 : Shape := ⟨2, ![497, 16]⟩
abbrev S497x16x1 : Shape := ⟨3, ![497, 16, 1]⟩
abbrev S4064x497x16x2 : Shape := ⟨4, ![4064, 497, 16, 2]⟩
abbrev S4064x497x32 : Shape := ⟨3, ![4064, 497, 32]⟩
abbrev S1x1x32 : Shape := ⟨3, ![1, 1, 32]⟩
abbrev S32x63119x32 : Shape := ⟨3, ![32, 63119, 32]⟩

abbrev nBuf : Space → Nat
  | .hbm => 47
  | .vmem => 0
  | .smem => 0
  | _ => 0

abbrev bufTy : (tb : Table) → Fin (tcTables nBuf tb) → BufTy
  | .hbm, ⟨0, _⟩ => ⟨S32x32768x2, .f32⟩
  | .hbm, ⟨1, _⟩ => ⟨S16x2x32, .f32⟩
  | .hbm, ⟨2, _⟩ => ⟨S32, .f32⟩
  | .hbm, ⟨3, _⟩ => ⟨S127, .i32⟩
  | .hbm, ⟨4, _⟩ => ⟨S_, .i32⟩
  | .hbm, ⟨5, _⟩ => ⟨S127, .i32⟩
  | .hbm, ⟨6, _⟩ => ⟨S127, .i32⟩
  | .hbm, ⟨7, _⟩ => ⟨S127x1, .i32⟩
  | .hbm, ⟨8, _⟩ => ⟨S512, .i32⟩
  | .hbm, ⟨9, _⟩ => ⟨S1x512, .i32⟩
  | .hbm, ⟨10, _⟩ => ⟨S127x512, .i32⟩
  | .hbm, ⟨11, _⟩ => ⟨S127x512, .i32⟩
  | .hbm, ⟨12, _⟩ => ⟨S127x512, .i32⟩
  | .hbm, ⟨13, _⟩ => ⟨S_, .i32⟩
  | .hbm, ⟨14, _⟩ => ⟨S127x512, .i32⟩
  | .hbm, ⟨15, _⟩ => ⟨S127x512, .i1⟩
  | .hbm, ⟨16, _⟩ => ⟨S_, .i32⟩
  | .hbm, ⟨17, _⟩ => ⟨S127x512, .i32⟩
  | .hbm, ⟨18, _⟩ => ⟨S127x512, .i32⟩
  | .hbm, ⟨19, _⟩ => ⟨S127x512, .i32⟩
  | .hbm, ⟨20, _⟩ => ⟨S127x512x1, .i32⟩
  | .hbm, ⟨21, _⟩ => ⟨S32x127x512x2, .f32⟩
  | .hbm, ⟨22, _⟩ => ⟨S4064x512x2, .f32⟩
  | .hbm, ⟨23, _⟩ => ⟨S497, .i32⟩
  | .hbm, ⟨24, _⟩ => ⟨S497x1, .i32⟩
  | .hbm, ⟨25, _⟩ => ⟨S16, .i32⟩
  | .hbm, ⟨26, _⟩ => ⟨S1x16, .i32⟩
  | .hbm, ⟨27, _⟩ => ⟨S497x16, .i32⟩
  | .hbm, ⟨28, _⟩ => ⟨S497x16, .i32⟩
  | .hbm, ⟨29, _⟩ => ⟨S497x16, .i32⟩
  | .hbm, ⟨30, _⟩ => ⟨S_, .i32⟩
  | .hbm, ⟨31, _⟩ => ⟨S497x16, .i32⟩
  | .hbm, ⟨32, _⟩ => ⟨S497x16, .i1⟩
  | .hbm, ⟨33, _⟩ => ⟨S_, .i32⟩
  | .hbm, ⟨34, _⟩ => ⟨S497x16, .i32⟩
  | .hbm, ⟨35, _⟩ => ⟨S497x16, .i32⟩
  | .hbm, ⟨36, _⟩ => ⟨S497x16, .i32⟩
  | .hbm, ⟨37, _⟩ => ⟨S497x16x1, .i32⟩
  | .hbm, ⟨38, _⟩ => ⟨S4064x497x16x2, .f32⟩
  | .hbm, ⟨39, _⟩ => ⟨S4064x497x32, .f32⟩
  | .hbm, ⟨40, _⟩ => ⟨S1x1x32, .f32⟩
  | .hbm, ⟨41, _⟩ => ⟨S4064x497x32, .f32⟩
  | .hbm, ⟨42, _⟩ => ⟨S4064x497x32, .f32⟩
  | .hbm, ⟨43, _⟩ => ⟨S_, .f32⟩
  | .hbm, ⟨44, _⟩ => ⟨S4064x497x32, .f32⟩
  | .hbm, ⟨45, _⟩ => ⟨S4064x497x32, .f32⟩
  | .hbm, ⟨46, _⟩ => ⟨S32x63119x32, .f32⟩
  | _, _ => ⟨S32x32768x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c_2 : Ref sig .tc := ⟨.hbm, 30, rfl⟩
abbrev main_v24 : Ref sig .tc := ⟨.hbm, 31, rfl⟩
abbrev main_v25 : Ref sig .tc := ⟨.hbm, 32, rfl⟩
abbrev main_c_3 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_cst : Ref sig .tc := ⟨.hbm, 43, rfl⟩
abbrev main_call0_v0 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]
-- ==== Proof.Band.lean ====
module
public import proofs.«01_k».proof.Proof.Gen.KernelIdeal.Frame
public import Idealize.ShloMosaic.Lib.StableHlo.RunRead
public import Idealize.ShloMosaic.Lib.Pipeline.ValueKit
public import Idealize.ShloMosaic.Lib.Pointwise

@[expose] public section

set_option maxRecDepth 16384
noncomputable section
open Idealize.ShloMosaic Idealize.ShloMosaic.TcCoe Idealize.SL.Sem
namespace Cert.Proof.Prefix
open Cert.KernelIdeal Cert.KernelIdeal.Gen

/-- The zero that the padding writes: the integer constant 0 as a float. -/
def zero : FVec Ideal S_ .f32 := sitofp .f32 (constantI S_ 32 0#32)

/-- The shifted filter, with its padding above and below, has 288 rows. -/
theorem pads_tap : ∀ d : Fin 128, S32x32.Pads (![2 * d.val, 0] : Fin 2 → Nat) ![256 - 2 * d.val, 0] ![0, 0] S288x32 := by
  decide +kernel

/-- The flattened filter, shifted down by `2 d` rows in a column of 288 rows that is zero elsewhere. -/
def tap (w : FVec Ideal S32x32 .f32) (d : Fin 128) : FVec Ideal S288x32x1 .f32 :=
  broadcastInDim S288x32x1 ![0, 1] bcast_S288x32_S288x32x1_0_1
    (pad S288x32 ![2 * d.val, 0] ![256 - 2 * d.val, 0] ![0, 0] w zero (pads_tap d) h_S_)

/-- Sixteen columns side by side make one group. -/
theorem concat_tap (f : Fin 16 → FVec Ideal S288x32x1 .f32) :
    Shape.Concatenates ((List.ofFn fun e : Fin 16 => (⟨S288x32x1, f e⟩ : (s : Shape) × (s.Idx → EReal))).map (·.1)) S288x32x16 2 := by
  simp only [List.map_ofFn]; exact (by decide : Shape.Concatenates (List.ofFn fun _ : Fin 16 => S288x32x1) S288x32x16 2)

/-- Eight groups side by side make the band. -/
theorem concat_group (f : Fin 8 → FVec Ideal S288x32x16 .f32) :
    Shape.Concatenates ((List.ofFn fun e : Fin 8 => (⟨S288x32x16, f e⟩ : (s : Shape) × (s.Idx → EReal))).map (·.1)) S288x32x128 2 := by
  simp only [List.map_ofFn]; exact (by decide : Shape.Concatenates (List.ofFn fun _ : Fin 8 => S288x32x16) S288x32x128 2)

/-- Sixteen neighbouring shifts side by side. -/
def group (w : FVec Ideal S32x32 .f32) (g : Fin 8) : FVec Ideal S288x32x16 .f32 :=
  concatenate S288x32x16 2 (List.ofFn fun e : Fin 16 => ⟨S288x32x1, tap w ⟨16 * g.val + e.val, by omega⟩⟩) (concat_tap _)

/-- The banded weights: all 128 shifts side by side. -/
def band (w : FVec Ideal S32x32 .f32) : FVec Ideal S288x32x128 .f32 :=
  concatenate S288x32x128 2 (List.ofFn fun g : Fin 8 => ⟨S288x32x16, group w g⟩) (concat_group _)

/-- The filter as a matrix of its 32 taps (position and input channel) by 32 output channels. -/
def flat (w : FVec Ideal S16x2x32 .f32) : FVec Ideal S32x32 .f32 := shapeCast S32x32 w shapeCasts_S16x2x32_S32x32

end Cert.Proof.Prefix

end
-- ==== Proof.BandLow.lean ====
module

public import proofs.«01_k».proof.Proof.Band

@[expose] public section

set_option maxRecDepth 16384
noncomputable section
open Idealize.ShloMosaic Idealize.ShloMosaic.TcCoe Idealize.SL.Sem
namespace Cert.Proof.Prefix
open Cert.KernelIdeal Cert.KernelIdeal.Gen

variable (m : (ℓ : Loc nD τ sig) → Buf (Elt Ideal) ℓ)

set_option maxHeartbeats 4000000 in
/-- What the host operations before the region leave in the first four groups of shifted filters. -/
theorem entry_bandLow (c : Dev nD) :
    V m c main_v259 = group (flat (m ((c : Thread nD τ).loc main_arg1))) 0 ∧
    V m c main_v260 = group (flat (m ((c : Thread nD τ).loc main_arg1))) 1 ∧
    V m c main_v261 = group (flat (m ((c : Thread nD τ).loc main_arg1))) 2 ∧
    V m c main_v262 = group (flat (m ((c : Thread nD τ).loc main_arg1))) 3 := by
  unfold V V0
  refine ⟨?_, ?_, ?_, ?_⟩ <;> (after_reads_simp; rfl)

end Cert.Proof.Prefix

end
-- ==== Proof.BandHigh.lean ====
module

public import proofs.«01_k».proof.Proof.Band

@[expose] public section

set_option maxRecDepth 16384
noncomputable section
open Idealize.ShloMosaic Idealize.ShloMosaic.TcCoe Idealize.SL.Sem
namespace Cert.Proof.Prefix
open Cert.KernelIdeal Cert.KernelIdeal.Gen

variable (m : (ℓ : Loc nD τ sig) → Buf (Elt Ideal) ℓ)

set_option maxHeartbeats 4000000 in
/-- What the host operations before the region leave in the last four groups of shifted filters. -/
theorem entry_bandHigh (c : Dev nD) :
    V m c main_v263 = group (flat (m ((c : Thread nD τ).loc main_arg1))) 4 ∧
    V m c main_v264 = group (flat (m ((c : Thread nD τ).loc main_arg1))) 5 ∧
    V m c main_v265 = group (flat (m ((c : Thread nD τ).loc main_arg1))) 6 ∧
    V m c main_v266 = group (flat (m ((c : Thread nD τ).loc main_arg1))) 7 := by
  unfold V V0
  refine ⟨?_, ?_, ?_, ?_⟩ <;> (after_reads_simp; rfl)

end Cert.Proof.Prefix

end
-- ==== Proof.Entry.lean ====
module

public import proofs.«01_k».proof.Proof.BandLow
public import proofs.«01_k».proof.Proof.BandHigh

@[expose] public section

set_option maxRecDepth 16384
noncomputable section
open Idealize.ShloMosaic Idealize.ShloMosaic.TcCoe Idealize.SL.Sem
namespace Cert.Proof.Prefix
open Cert.KernelIdeal Cert.KernelIdeal.Gen

variable (m : (ℓ : Loc nD τ sig) → Buf (Elt Ideal) ℓ)

/-- The padding value is zero. -/
theorem zero_at (i : S_.Idx) : zero i = 0 := by
  pointwise [zero]
  show (((0#32 : BitVec 32).toInt : ℝ) : EReal) = 0
  simp

/-- The padded input, in rows of 128 positions, at an index. -/
theorem input_at (x : FVec Ideal S32x32768x2 .f32) (b : Fin 32) (r : Fin 258) (k : Fin 256) :
    shapeCast S32x258x256 (pad S32x33024x2 ![0, 0, 0] ![0, 256, 0] ![0, 0, 0] x zero
      pads_S32x32768x2_S32x33024x2_000_02560_000 h_S_) shapeCasts_S32x33024x2_S32x258x256 (ix3 b r k)
    = if h : r.val < 256 then x (ix3 b (⟨128 * r.val + k.val / 2, by omega⟩ : Fin 32768) (⟨k.val % 2, by omega⟩ : Fin 2)) else 0 := by
  pointwise
  rw [zero_at]
  by_cases h : r.val < 256
  · rw [dif_pos h, dif_pos (by omega)]
    exact congrArg (fun n => x (ix3 b n _)) (Fin.ext (congrArg (· + _) (Nat.mul_comm _ _)))
  · rw [dif_neg h, dif_neg (by omega)]

/-- The first window's array: the input with 256 zero positions behind it, in rows of 128 positions. -/
theorem entry_input (c : Dev nD) (b : Fin 32) (r : Fin 258) (k : Fin 256) :
    V m c main_v1 (ix3 b r k) = if h : r.val < 256 then
      (m ((c : Thread nD τ).loc main_arg0) : FVec Ideal S32x32768x2 .f32) (ix3 b (⟨128 * r.val + k.val / 2, by omega⟩ : Fin 32768) (⟨k.val % 2, by omega⟩ : Fin 2)) else (0 : EReal) := by
  have e : V m c main_v1 = shapeCast S32x258x256 (pad S32x33024x2 ![0, 0, 0] ![0, 256, 0] ![0, 0, 0] (m ((c : Thread nD τ).loc main_arg0) : FVec Ideal S32x32768x2 .f32) zero
      pads_S32x32768x2_S32x33024x2_000_02560_000 h_S_) shapeCasts_S32x33024x2_S32x258x256 := by
    unfold V V0
    after_reads_simp
    rfl
  rw [e]
  exact input_at _ b r k

/-- The third window's array: each channel's bias, 128 times. -/
theorem entry_bias (c : Dev nD) (p : Fin 4096) :
    V m c main_v271 (ix2 0 p) = (m ((c : Thread nD τ).loc main_arg2) : FVec Ideal S32 .f32) (ix1 (⟨p.val / 128, by omega⟩ : Fin 32)) := by
  have e : V m c main_v271 = broadcastInDim S1x4096 ![1] bcast_S4096_S1x4096_1 (shapeCast S4096 (broadcastInDim S32x128 ![0] bcast_S32_S32x128_0
      (m ((c : Thread nD τ).loc main_arg2) : FVec Ideal S32 .f32)) shapeCasts_S32x128_S4096) := by
    unfold V V0
    after_reads_simp
    rfl
  rw [e]
  pointwise

/-- The shifted filter at an index: the filter's tap, where the shift puts one, and zero elsewhere. -/
theorem tap_at (w : FVec Ideal S16x2x32 .f32) (d : Fin 128) (k : Fin 288) (f : Fin 32) :
    tap (flat w) d (ix3 k f 0) = if h : 2 * d.val ≤ k.val ∧ k.val < 2 * d.val + 32 then
      w (ix3 (⟨(k.val - 2 * d.val) / 2, by omega⟩ : Fin 16) (⟨(k.val - 2 * d.val) % 2, by omega⟩ : Fin 2) f) else 0 := by
  pointwise [tap, flat]
  rw [zero_at]
  by_cases h : 2 * d.val ≤ k.val ∧ k.val < 2 * d.val + 32
  · rw [dif_pos h, dif_pos ⟨h.1, by omega⟩]
  · rw [dif_neg h, dif_neg (by omega)]

/-- The banded weights at shift `d` are the filter shifted by `d`: the groups and the places inside them are undone. -/
theorem band_eq (w : FVec Ideal S32x32 .f32) (k : Fin 288) (f : Fin 32) (d : Fin 128) : band w (ix3 k f d) = tap w d (ix3 k f 0) := by
  unfold band
  refine (concatenate_ofFn_apply (s₁ := S288x32x16) 2 (group w) (concat_group _) rfl 16 rfl (ix3 k f d) (⟨d.val / 16, by omega⟩ : Fin 8) rfl
    (ix3 k f (⟨d.val % 16, by omega⟩ : Fin 16)) rfl ?_).trans ?_
  · intro b hb
    match b with
    | ⟨0, _⟩ => rfl
    | ⟨1, _⟩ => rfl
    | ⟨2, _⟩ => exact absurd rfl hb
  unfold group
  refine (concatenate_ofFn_unit_apply (s₁ := S288x32x1) 2 (fun e : Fin 16 => tap w ⟨16 * (d.val / 16) + e.val, by omega⟩) (concat_tap _) rfl rfl _ (⟨d.val % 16, by omega⟩ : Fin 16) rfl
    (ix3 k f 0) ?_).trans ?_
  · intro b hb
    match b with
    | ⟨0, _⟩ => rfl
    | ⟨1, _⟩ => rfl
    | ⟨2, _⟩ => exact absurd rfl hb
  exact congrArg (fun e => tap w e (ix3 k f 0)) (Fin.ext (by show 16 * (d.val / 16) + d.val % 16 = d.val; omega))

/-- The last stretch of host operations joins the eight groups and flattens them. -/
theorem last_stretch (U : Valuation τ sig (Elt Ideal)) :
    StableHlo.after hostOps0_258 U (Proc.devRef .tc main_v268)
    = shapeCast S288x4096 (concatenate (α := EReal) S288x32x128 2 [
      ⟨S288x32x16, StableHlo.after hostOps0_258 U (Proc.devRef .tc main_v259)⟩,
      ⟨S288x32x16, StableHlo.after hostOps0_258 U (Proc.devRef .tc main_v260)⟩,
      ⟨S288x32x16, StableHlo.after hostOps0_258 U (Proc.devRef .tc main_v261)⟩,
      ⟨S288x32x16, StableHlo.after hostOps0_258 U (Proc.devRef .tc main_v262)⟩,
      ⟨S288x32x16, StableHlo.after hostOps0_258 U (Proc.devRef .tc main_v263)⟩,
      ⟨S288x32x16, StableHlo.after hostOps0_258 U (Proc.devRef .tc main_v264)⟩,
      ⟨S288x32x16, StableHlo.after hostOps0_258 U (Proc.devRef .tc main_v265)⟩,
      ⟨S288x32x16, StableHlo.after hostOps0_258 U (Proc.devRef .tc main_v266)⟩] (concat_group (fun _ => 0))) shapeCasts_S288x32x128_S288x4096 := by
  after_reads_simp
  rfl

/-- The host operations before the kernel end with that stretch. -/
theorem split (c : Dev nD) : ∃ U, V0 m c = StableHlo.after hostOps0_258 U := by
  unfold V0
  simp only [List.flatten_cons, List.flatten_nil, List.append_nil, StableHlo.after_append]
  exact ⟨_, rfl⟩

/-- The second window's array is the banded weights, flattened. -/
theorem entry_weights (c : Dev nD) : V m c main_v268
    = shapeCast S288x4096 (band (flat (m ((c : Thread nD τ).loc main_arg1)))) shapeCasts_S288x32x128_S288x4096 := by
  obtain ⟨U, hU⟩ := split m c
  have h := last_stretch U
  rw [← hU] at h
  obtain ⟨h0, h1, h2, h3⟩ := entry_bandLow m c
  obtain ⟨h4, h5, h6, h7⟩ := entry_bandHigh m c
  unfold V at h0 h1 h2 h3 h4 h5 h6 h7 ⊢
  refine h.trans (congrArg (fun z => shapeCast S288x4096 z shapeCasts_S288x32x128_S288x4096) (StableHlo.concatenate_congr S288x32x128 2 ?_ _ _))
  rw [h0, h1, h2, h3, h4, h5, h6, h7]
  rfl

/-- The second window's array at an index: column `128 f + d` holds channel `f`'s filter, shifted down by `2 d` rows. -/
theorem weights_at (c : Dev nD) (k : Fin 288) (p : Fin 4096) :
    V m c main_v268 (ix2 k p) = if h : 2 * (p.val % 128) ≤ k.val ∧ k.val < 2 * (p.val % 128) + 32 then
      (m ((c : Thread nD τ).loc main_arg1) : FVec Ideal S16x2x32 .f32) (ix3 (⟨(k.val - 2 * (p.val % 128)) / 2, by omega⟩ : Fin 16)
        (⟨(k.val - 2 * (p.val % 128)) % 2, by omega⟩ : Fin 2) (⟨p.val / 128, by omega⟩ : Fin 32)) else (0 : EReal) := by
  rw [entry_weights]
  have e : shapeCast S288x4096 (band (flat (m ((c : Thread nD τ).loc main_arg1)))) shapeCasts_S288x32x128_S288x4096 (ix2 k p)
      = band (flat (m ((c : Thread nD τ).loc main_arg1))) (ix3 k (⟨p.val / 128, by omega⟩ : Fin 32) (⟨p.val % 128, by omega⟩ : Fin 128)) := by
    pointwise
  rw [e, band_eq, tap_at]

end Cert.Proof.Prefix

end
-- ==== Proof.Lanes.lean ====
module

public import proofs.«01_k».proof.Proof.Gen.KernelIdeal.Frame
public import Idealize.ShloMosaic.Lib.Pipeline.ValueKit
public import Idealize.ShloMosaic.Lib.Pointwise

/-!
What one step of the kernel leaves in its scratch array and in its output block, as functions of the
three input blocks: a banded product with bias and rectifier, and overlapping stretches of it.
-/

@[expose] public section

set_option maxRecDepth 16384
noncomputable section
open Idealize.ShloMosaic Idealize.ShloMosaic.TcCoe Idealize.SL.Sem
namespace Cert.Proof.Body
open Cert.KernelIdeal Cert.KernelIdeal.Gen

/-- One stored chunk at an index: row `q / 128` of the patches against the column of channel `f` and shift `q % 128`,
    plus that column's bias, rectified. -/
theorem chunk_at (a : FVec Ideal S1x64x256 .f32) (a' : FVec Ideal S1x64x32 .f32) (w : FVec Ideal S288x4096 .f32) (bb : FVec Ideal S1x4096 .f32)
    (f : Fin 32) (q : Fin 8192) : k0_pay4 a a' w bb (ix2 f q) = max ((∑ k : Fin 288, (if h : k.val < 256 then
      a (ix3 0 (⟨q.val / 128, by omega⟩ : Fin 64) (⟨k.val, h⟩ : Fin 256)) else a' (ix3 0 (⟨q.val / 128, by omega⟩ : Fin 64) (⟨k.val - 256, by omega⟩ : Fin 32)))
      * w (ix2 k (⟨f.val * 128 + q.val % 128, by omega⟩ : Fin 4096))) + bb (ix2 0 (⟨f.val * 128 + q.val % 128, by omega⟩ : Fin 4096))) 0 := by
  pointwise [k0_pay4]

/-- Entry `k` of the patch of row `r`: the row itself, then the first 32 entries of the next row. -/
def patch (x0 : Vec Ideal S1x258x256 .f32) (r : Fin 256) (k : Fin 288) : EReal :=
  if h : k.val < 256 then x0 (ix3 0 (⟨r.val, by omega⟩ : Fin 258) (⟨k.val, h⟩ : Fin 256))
  else x0 (ix3 0 (⟨r.val + 1, by omega⟩ : Fin 258) (⟨k.val - 256, by omega⟩ : Fin 256))

/-- The scratch array's value for channel `f` at position `p`. -/
def lane (x0 : Vec Ideal S1x258x256 .f32) (x1 : Vec Ideal S288x4096 .f32) (x2 : Vec Ideal S1x4096 .f32) (f : Fin 32) (p : Fin 32768) : EReal :=
  max ((∑ k : Fin 288, patch x0 ⟨p.val / 128, by omega⟩ k * x1 (ix2 k (⟨f.val * 128 + p.val % 128, by omega⟩ : Fin 4096)))
    + x2 (ix2 0 (⟨f.val * 128 + p.val % 128, by omega⟩ : Fin 4096))) 0

/-- Where the four chunks lie in the scratch array, the last stored first. -/
theorem inb_chunk : ∀ (k : Fin 4) (a : Fin 2), (![0, 8192 * (3 - k.val)] : Fin 2 → Nat) a + S32x8192.size a ≤ S32x32768.size a := by
  decide

/-- Four chunks put side by side, at a position. -/
theorem canon_chunks (P : Fin 4 → FVec Ideal S32x8192 .f32) (f : Fin 32) (p : Fin 32768) (v : EReal)
    (hP : ∀ (k : Fin 4) (q : Fin 8192), p.val = 8192 * (3 - k.val) + q.val → P k (ix2 f q) = v) :
    View.canon (List.ofFn fun k : Fin 4 => (⟨Rect.unit (s := S32x32768) ![0, 8192 * (3 - k.val)] S32x8192.size (inb_chunk k), P k⟩ :
      View.Piece (Elt Ideal) S32x32768 .f32)) (ix2 f p) = v := by
  refine View.canon_ofFn_unit_eq_of_forall (Val := Elt Ideal) (e := .f32) (S := S32x32768) (fun k : Fin 4 => ![0, 8192 * (3 - k.val)]) S32x8192.size inb_chunk P
    (ix2 f p) v ⟨⟨3 - p.val / 8192, by omega⟩, ?_⟩ ?_
  · intro a
    match a with
    | ⟨0, _⟩ => exact ⟨Nat.zero_le _, by show f.val < 0 + 32; omega⟩
    | ⟨1, _⟩ =>
      constructor
      · show 8192 * (3 - (3 - p.val / 8192)) ≤ p.val; omega
      · show p.val < 8192 * (3 - (3 - p.val / 8192)) + 8192; omega
  · intro k x hx
    obtain ⟨g, q, rfl⟩ : ∃ (g : Fin 32) (q : Fin 8192), x = ix2 g q := ⟨x 0, x 1, by pointwise⟩
    have h0 : f.val = 0 + g.val := hx 0
    obtain rfl : f = g := Fin.ext (by omega)
    exact hP k q (hx 1)

/-- Where the stretches of the scratch array start. -/
theorem inb_from : ∀ (k : Fin 127) (a : Fin 2), (![0, 256 * (126 - k.val)] : Fin 2 → Nat) a + S32x497.size a ≤ S32x32768.size a := by
  decide +kernel

/-- Where they are put in the output block. -/
theorem inb_to : ∀ (k : Fin 127) (a : Fin 3), (![0, 0, 497 * (126 - k.val)] : Fin 3 → Nat) a + S1x32x497.size a ≤ S1x32x63119.size a := by
  decide +kernel

/-- The stretches put side by side, at a position. -/
theorem canon_stretches (P : Fin 127 → FVec Ideal S1x32x497 .f32) (f : Fin 32) (o : Fin 63119) (v : EReal)
    (hP : ∀ (k : Fin 127) (q : Fin 497), o.val = 497 * (126 - k.val) + q.val → P k (ix3 0 f q) = v) :
    View.canon (List.ofFn fun k : Fin 127 => (⟨Rect.unit (s := S1x32x63119) ![0, 0, 497 * (126 - k.val)] S1x32x497.size (inb_to k), P k⟩ :
      View.Piece (Elt Ideal) S1x32x63119 .f32)) (ix3 0 f o) = v := by
  refine View.canon_ofFn_unit_eq_of_forall (Val := Elt Ideal) (e := .f32) (S := S1x32x63119) (fun k : Fin 127 => ![0, 0, 497 * (126 - k.val)]) S1x32x497.size inb_to P
    (ix3 0 f o) v ⟨⟨126 - o.val / 497, by omega⟩, ?_⟩ ?_
  · intro a
    match a with
    | ⟨0, _⟩ => exact ⟨Nat.zero_le _, Nat.one_pos⟩
    | ⟨1, _⟩ => exact ⟨Nat.zero_le _, by show f.val < 0 + 32; omega⟩
    | ⟨2, _⟩ =>
      constructor
      · show 497 * (126 - (126 - o.val / 497)) ≤ o.val; omega
      · show o.val < 497 * (126 - (126 - o.val / 497)) + 497; omega
  · intro k x hx
    obtain ⟨u, g, q, rfl⟩ : ∃ (u : Fin 1) (g : Fin 32) (q : Fin 497), x = ix3 u g q := ⟨x 0, x 1, x 2, by pointwise⟩
    obtain rfl : u = 0 := Subsingleton.elim _ _
    have h0 : f.val = 0 + g.val := hx 1
    obtain rfl : f = g := Fin.ext (by omega)
    exact hP k q (hx 2)

/-- A stretch read from the scratch array, at a position. -/
theorem stretch_of_scratch (arg5 : Memref sig .tc .vmem S32x32768 .f32) (L : List (View.Piece (Elt Ideal) S32x32768 .f32)) (k : Fin 127)
    (f : Fin 32) (q : Fin 497) (p : Fin 32768) (hp : p.val = 256 * (126 - k.val) + q.val) :
    shapeCast S1x32x497 (arg5.view.readCov L (Rect.unit (s := S32x32768) ![0, 256 * (126 - k.val)] S32x497.size (inb_from k)).toLoadRect)
      shapeCasts_S32x497_S1x32x497 (ix3 0 f q) = View.canon L (ix2 f p) := by
  rw [View.readCov_eq_canon']
  have cast_at (G : FVec Ideal S32x497 .f32) : shapeCast S1x32x497 G shapeCasts_S32x497_S1x32x497 (ix3 0 f q) = G (ix2 f q) := by pointwise
  refine (cast_at _).trans (congrArg (View.canon L) (funext fun a => Fin.ext ?_))
  match a with
  | ⟨0, _⟩ => show 0 + 1 * f.val = f.val; omega
  | ⟨1, _⟩ => show 256 * (126 - k.val) + 1 * q.val = p.val; omega

section
variable (c : Dev nD) (arg1 : Memref sig .tc .vmem S1x258x256 .f32) (harg1 : arg1.IsWhole) (arg2 : Memref sig .tc .vmem S288x4096 .f32)
  (harg2 : arg2.IsWhole) (arg3 : Memref sig .tc .vmem S1x4096 .f32) (harg3 : arg3.IsWhole) (arg5 : Memref sig .tc .vmem S32x32768 .f32)
  (x0 : Vec Ideal S1x258x256 .f32) (x1 : Vec Ideal S288x4096 .f32) (x2 : Vec Ideal S1x4096 .f32)

/-- The rows a chunk's patches start in. -/
theorem inb_rows : ∀ (k : Fin 4) (a : Fin 3), (![0, 64 * (3 - k.val), 0] : Fin 3 → Nat) a + S1x64x256.size a ≤ S1x258x256.size a := by
  decide

/-- The rows that follow them. -/
theorem inb_next : ∀ (k : Fin 4) (a : Fin 3), (![0, 64 * (3 - k.val) + 1, 0] : Fin 3 → Nat) a + S1x64x32.size a ≤ S1x258x256.size a := by
  decide

/-- A chunk's value. -/
def chunk (k : Fin 4) : FVec Ideal S32x8192 .f32 :=
  k0_pay4 (View.readAt (Elt Ideal) arg1.view (Rect.unit (s := S1x258x256) ![0, 64 * (3 - k.val), 0] S1x64x256.size (inb_rows k)).toLoadRect (harg1.unread x0))
    (View.readAt (Elt Ideal) arg1.view (Rect.unit (s := S1x258x256) ![0, 64 * (3 - k.val) + 1, 0] S1x64x32.size (inb_next k)).toLoadRect (harg1.unread x0))
    (View.readAt (Elt Ideal) arg2.view (Rect.unit ![0, 0] S288x4096.size inb_S288x4096_S288x4096_0_0).toLoadRect (harg2.unread x1))
    (View.readAt (Elt Ideal) arg3.view (Rect.unit ![0, 0] S1x4096.size inb_S1x4096_S1x4096_0_0).toLoadRect (harg3.unread x2))

/-- The four chunks stored in the scratch array are one family. -/
theorem chunks_eq : kernelRun0_A.sl.HS0_4 (F := Ideal) c arg1 harg1 arg2 harg2 arg3 harg3 x0 x1 x2
    = List.ofFn fun k : Fin 4 => ⟨Rect.unit (s := S32x32768) ![0, 8192 * (3 - k.val)] S32x8192.size (inb_chunk k), chunk arg1 harg1 arg2 harg2 arg3 harg3 x0 x1 x2 k⟩ := rfl

/-- A chunk at an index is the scratch array's value there. -/
theorem chunk_lane (k : Fin 4) (f : Fin 32) (q : Fin 8192) (p : Fin 32768) (hp : p.val = 8192 * (3 - k.val) + q.val) :
    chunk arg1 harg1 arg2 harg2 arg3 harg3 x0 x1 x2 k (ix2 f q) = lane x0 x1 x2 f p := by
  unfold chunk
  rw [chunk_at]
  simp only [View.readAt_eq_ld, harg1.read_unread, harg2.read_unread, harg3.read_unread]
  unfold lane patch
  have e1 : p.val / 128 = 64 * (3 - k.val) + q.val / 128 := by omega
  have e2 : p.val % 128 = q.val % 128 := by omega
  simp only [e1, e2]
  pointwise
  simp only [show 64 * (3 - k.val) + 1 + q.val / 128 = 64 * (3 - k.val) + q.val / 128 + 1 by omega]

/-- The scratch array after the four stores. -/
theorem scratch_at (f : Fin 32) (p : Fin 32768) :
    View.canon (kernelRun0_A.sl.HS0_4 (F := Ideal) c arg1 harg1 arg2 harg2 arg3 harg3 x0 x1 x2) (ix2 f p) = lane x0 x1 x2 f p := by
  rw [chunks_eq]
  exact canon_chunks _ f p _ fun k q hq => chunk_lane arg1 harg1 arg2 harg2 arg3 harg3 x0 x1 x2 k f q p hq

/-- One stretch's value. -/
def stretch (k : Fin 127) : FVec Ideal S1x32x497 .f32 :=
  shapeCast S1x32x497 (arg5.view.readCov (kernelRun0_A.sl.HS0_4 (F := Ideal) c arg1 harg1 arg2 harg2 arg3 harg3 x0 x1 x2)
    (Rect.unit (s := S32x32768) ![0, 256 * (126 - k.val)] S32x497.size (inb_from k)).toLoadRect) shapeCasts_S32x497_S1x32x497

/-- A stretch at a position is the scratch array's value there. -/
theorem stretch_at (k : Fin 127) (f : Fin 32) (q : Fin 497) (p : Fin 32768) (hp : p.val = 256 * (126 - k.val) + q.val) :
    stretch c arg1 harg1 arg2 harg2 arg3 harg3 arg5 x0 x1 x2 k (ix3 0 f q) = lane x0 x1 x2 f p :=
  (stretch_of_scratch arg5 _ k f q p hp).trans (scratch_at c arg1 harg1 arg2 harg2 arg3 harg3 x0 x1 x2 f p)

variable (i : grid0.Coords) (arg4 : Memref sig .tc .vmem S1x32x63119 .f32) (harg4 : arg4.IsWhole) (harg5 : arg5.IsWhole)

/-- The 127 stretches stored in the output block are one family. -/
theorem stretches_eq : (kernelRun0_A (F := Ideal) c i arg1 harg1 arg2 harg2 arg3 harg3 arg4 harg4 arg5 harg5 x0 x1 x2).1
    = List.ofFn fun k : Fin 127 => ⟨Rect.unit (s := S1x32x63119) ![0, 0, 497 * (126 - k.val)] S1x32x497.size (inb_to k), stretch c arg1 harg1 arg2 harg2 arg3 harg3 arg5 x0 x1 x2 k⟩ := rfl

/-- The output block after the 127 stores. -/
theorem block_at (f : Fin 32) (o : Fin 63119) :
    View.canon (kernelRun0_A (F := Ideal) c i arg1 harg1 arg2 harg2 arg3 harg3 arg4 harg4 arg5 harg5 x0 x1 x2).1 (ix3 0 f o)
      = lane x0 x1 x2 f ⟨256 * (o.val / 497) + o.val % 497, by omega⟩ := by
  rw [stretches_eq]
  refine canon_stretches _ f o _ fun k q hq => stretch_at c arg1 harg1 arg2 harg2 arg3 harg3 arg5 x0 x1 x2 k f q _ ?_
  show 256 * (o.val / 497) + o.val % 497 = 256 * (126 - k.val) + q.val
  omega
end

end Cert.Proof.Body

end
-- ==== Proof.Conv.lean ====
module

public import Idealize.ShloMosaic.Lib.Pipeline.ValueKit
public import Idealize.ShloMosaic.Lib.Pointwise

@[expose] public section

noncomputable section

namespace Cert.Proof

open Idealize.ShloMosaic Idealize.SL.Sem

/-- The input positions a window of sixteen may start at, so that it ends inside the 32768 positions. -/
abbrev Start : Type := Fin 32753

/-- One filtered position: the products of the sixteen positions from `n` on, over both input channels, with the filter of
    output channel `f`, added up. -/
def tapSum (x : FVec Ideal ⟨3, ![32, 32768, 2]⟩ .f32) (w : FVec Ideal ⟨3, ![16, 2, 32]⟩ .f32) (b : Fin 32) (n : Start) (f : Fin 32) : EReal :=
  ∑ q : Fin 16, ∑ ch : Fin 2, x (ix3 b (⟨n.val + q.val, by omega⟩ : Fin 32768) ch) * w (ix3 q ch f)

/-- One output: the filtered position with its bias, cut off below at zero. -/
def conv (x : FVec Ideal ⟨3, ![32, 32768, 2]⟩ .f32) (w : FVec Ideal ⟨3, ![16, 2, 32]⟩ .f32) (bias : FVec Ideal ⟨1, ![32]⟩ .f32)
    (b : Fin 32) (n : Start) (f : Fin 32) : EReal :=
  max (tapSum x w b n f + bias (ix1 f)) 0

/-- Where output position `o` starts to read: window `o / 497` starts at 256 times its number. -/
def startOf (o : Fin 63119) : Start := ⟨256 * (o.val / 497) + o.val % 497, by omega⟩

end Cert.Proof

end
-- ==== Proof.Taps.lean ====
module

public import proofs.«01_k».proof.Proof.Lanes
public import proofs.«01_k».proof.Proof.Conv

/-!
A row of the banded product is a sum over the filter's taps: of the 288 terms only 32 are not zero,
and they run over the 16 positions and 2 channels of one window.
-/

@[expose] public section

set_option maxRecDepth 16384
noncomputable section
open Idealize.ShloMosaic Idealize.ShloMosaic.TcCoe Idealize.SL.Sem
namespace Cert.Proof.Body
open Cert.KernelIdeal Cert.KernelIdeal.Gen

/-- A sum over an even number of terms, in pairs. -/
theorem sum_pairs (g : ℕ → EReal) : ∀ n : ℕ, ∑ j ∈ Finset.range (2 * n), g j = ∑ q ∈ Finset.range n, (g (2 * q) + g (2 * q + 1))
  | 0 => rfl
  | n + 1 => by
    rw [Finset.sum_range_succ _ n, ← sum_pairs g n, show 2 * (n + 1) = 2 * n + 1 + 1 by omega, Finset.sum_range_succ, Finset.sum_range_succ, add_assoc]

/-- A sum of 288 terms that vanish outside a stretch of 32 is the sum over the stretch, in pairs. -/
theorem sum_stretch (g : ℕ → EReal) (d : ℕ) (hd : d < 128) :
    ∑ k : Fin 288, (if 2 * d ≤ k.val ∧ k.val < 2 * d + 32 then g k.val else 0) = ∑ q : Fin 16, ∑ ch : Fin 2, g (2 * d + 2 * q.val + ch.val) := by
  rw [Fin.sum_univ_eq_sum_range (fun k => if 2 * d ≤ k ∧ k < 2 * d + 32 then g k else 0) 288, ← Finset.sum_filter]
  have e : (Finset.range 288).filter (fun k => 2 * d ≤ k ∧ k < 2 * d + 32) = Finset.Ico (2 * d) (2 * d + 32) := by
    ext k
    simp only [Finset.mem_filter, Finset.mem_range, Finset.mem_Ico]
    omega
  rw [e, Finset.sum_Ico_eq_sum_range, show 2 * d + 32 - 2 * d = 2 * 16 by omega, sum_pairs (fun j => g (2 * d + j)),
    ← Fin.sum_univ_eq_sum_range (fun q => g (2 * d + 2 * q) + g (2 * d + (2 * q + 1)))]
  refine Finset.sum_congr rfl fun q _ => ?_
  rw [Fin.sum_univ_two]
  rfl

/-- The input at a position, zero beyond its end. -/
def padded (x : FVec Ideal S32x32768x2 .f32) (b : Fin 32) (n : ℕ) (ch : Fin 2) : EReal :=
  if h : n < 32768 then x (ix3 b (⟨n, h⟩ : Fin 32768) ch) else 0

/-- An entry of a patch is the padded input at the entry's position and channel. -/
theorem patch_at (x : FVec Ideal S32x32768x2 .f32) (b : Fin 32) (x0 : Vec Ideal S1x258x256 .f32)
    (h0 : ∀ (r : Fin 258) (k : Fin 256), x0 (ix3 0 r k) = if h : r.val < 256 then
      x (ix3 b (⟨128 * r.val + k.val / 2, by omega⟩ : Fin 32768) (⟨k.val % 2, by omega⟩ : Fin 2)) else (0 : EReal))
    (r : Fin 256) (k : Fin 288) : patch x0 r k = padded x b (128 * r.val + k.val / 2) ⟨k.val % 2, by omega⟩ := by
  unfold patch padded
  by_cases h : k.val < 256
  · rw [dif_pos h, h0, dif_pos (by exact r.isLt), dif_pos (by omega)]
  · rw [dif_neg h, h0]
    by_cases hr : r.val + 1 < 256
    · rw [dif_pos hr, dif_pos (by omega)]
      congr 2 <;> exact Fin.ext (by simp only []; omega)
    · rw [dif_neg hr, dif_neg (by omega)]

/-- The scratch array at a window's start is the reference's value for that window. -/
theorem lane_eq (x : FVec Ideal S32x32768x2 .f32) (w : FVec Ideal S16x2x32 .f32) (bias : FVec Ideal S32 .f32) (b : Fin 32)
    (x0 : Vec Ideal S1x258x256 .f32) (x1 : Vec Ideal S288x4096 .f32) (x2 : Vec Ideal S1x4096 .f32)
    (h0 : ∀ (r : Fin 258) (k : Fin 256), x0 (ix3 0 r k) = if h : r.val < 256 then
      x (ix3 b (⟨128 * r.val + k.val / 2, by omega⟩ : Fin 32768) (⟨k.val % 2, by omega⟩ : Fin 2)) else (0 : EReal))
    (h1 : ∀ (k : Fin 288) (p : Fin 4096), x1 (ix2 k p) = if h : 2 * (p.val % 128) ≤ k.val ∧ k.val < 2 * (p.val % 128) + 32 then
      w (ix3 (⟨(k.val - 2 * (p.val % 128)) / 2, by omega⟩ : Fin 16)
        (⟨(k.val - 2 * (p.val % 128)) % 2, by omega⟩ : Fin 2) (⟨p.val / 128, by omega⟩ : Fin 32)) else (0 : EReal))
    (h2 : ∀ p : Fin 4096, x2 (ix2 0 p) = bias (ix1 (⟨p.val / 128, by omega⟩ : Fin 32)))
    (f : Fin 32) (n : Start) : lane x0 x1 x2 f ⟨n.val, by omega⟩ = conv x w bias b n f := by
  unfold lane conv
  rw [h2]
  refine congrArg₂ max (congrArg₂ (· + ·) ?_ (congrArg (fun i => bias (ix1 i)) (Fin.ext (by simp only []; omega)))) rfl
  unfold tapSum
  let g : ℕ → EReal := fun k => padded x b (128 * (n.val / 128) + k / 2) ⟨k % 2, by omega⟩
    * w (ix3 (⟨(k - 2 * (n.val % 128)) / 2 % 16, by omega⟩ : Fin 16) (⟨(k - 2 * (n.val % 128)) % 2, by omega⟩ : Fin 2) f)
  refine (Finset.sum_congr rfl fun k _ => ?_).trans ((sum_stretch g (n.val % 128) (by omega)).trans
    (Finset.sum_congr rfl fun q _ => Finset.sum_congr rfl fun ch _ => ?_))
  · rw [patch_at x b x0 h0, h1]
    have e1 : (f.val * 128 + n.val % 128) % 128 = n.val % 128 := by omega
    have e2 : (f.val * 128 + n.val % 128) / 128 = f.val := by omega
    simp only [e1, e2]
    by_cases h : 2 * (n.val % 128) ≤ k.val ∧ k.val < 2 * (n.val % 128) + 32
    · rw [dif_pos h, if_pos h]
      refine congrArg₂ (· * ·) rfl (congrArg (fun i => w (ix3 i _ _)) (Fin.ext ?_))
      simp only []
      omega
    · rw [dif_neg h, if_neg h, mul_zero]
  · show padded x b _ _ * _ = _
    unfold padded
    rw [dif_pos (by omega)]
    refine congrArg₂ (· * ·) (congrArg x ?_) (congrArg w ?_)
    · refine congrArg₂ (ix3 b) (Fin.ext ?_) (Fin.ext ?_) <;> simp only [] <;> omega
    · refine congrArg₂ (fun i j => ix3 i j f) (Fin.ext ?_) (Fin.ext ?_) <;> simp only [] <;> omega

end Cert.Proof.Body

end
-- ==== Proof.Output.lean ====
module

public import proofs.«01_k».proof.Proof.Entry
public import proofs.«01_k».proof.Proof.Taps

/-!
The kernel's result array: what each step leaves in the output, the whole output array, and its
transposition by the host.
-/

@[expose] public section

set_option maxRecDepth 16384
noncomputable section
open Idealize.ShloMosaic Idealize.ShloMosaic.TcCoe Idealize.SL.Sem
open Idealize.ShloMosaic.Pipeline (Dat)
namespace Cert.Proof.Body
open Cert.KernelIdeal Cert.KernelIdeal.Gen

variable (m : (ℓ : Loc nD τ sig) → Buf (Elt Ideal) ℓ)

/-- Where the windows stand at each step: the input and output blocks at the step's batch entry, the others at the whole array. -/
theorem idx : ∀ t : Fin cfg0.N, win0_0.index t = ![t.val, 0, 0] ∧ win0_1.index t = ![0, 0] ∧ win0_2.index t = ![0, 0] ∧ win0_3.index t = ![t.val, 0, 0] :=
  (by decide +kernel : ∀ t : Fin grid0.N, _)

/-- The first window's block is the step's batch entry. -/
theorem block_input (c : Dev nD) (t : Fin cfg0.N) (r : Fin 258) (k : Fin 256) :
    iblk m c 0 t (ix3 0 r k) = V m c main_v1 (ix3 (⟨t.val, t.isLt⟩ : Fin 32) r k) := by
  unfold iblk
  generalize V m c (Pipeline.arrRef spec0 0) = G
  blk_point [idx t]

/-- The second window's block is its whole array. -/
theorem block_weights (c : Dev nD) (t : Fin cfg0.N) (k : Fin 288) (p : Fin 4096) :
    iblk m c 1 t (ix2 k p) = V m c main_v268 (ix2 k p) := by
  unfold iblk
  generalize V m c (Pipeline.arrRef spec0 1) = G
  blk_point [idx t]

/-- The third window's block is its whole array. -/
theorem block_bias (c : Dev nD) (t : Fin cfg0.N) (p : Fin 4096) :
    iblk m c 2 t (ix2 0 p) = V m c main_v271 (ix2 0 p) := by
  unfold iblk
  generalize V m c (Pipeline.arrRef spec0 2) = G
  blk_point [idx t]

/-- The output block of a step, at channel `f` and output position `o`. -/
theorem step_at (c : Dev nD) (t : Fin cfg0.N) (f : Fin 32) (o : Fin 63119) :
    outsAt0 m c t (ix3 0 f o) = conv (m ((c : Thread nD τ).loc main_arg0)) (m ((c : Thread nD τ).loc main_arg1)) (m ((c : Thread nD τ).loc main_arg2))
      (⟨t.val, t.isLt⟩ : Fin 32) (startOf o) f := by
  unfold outsAt0 out0_A_3
  rw [View.read_writes_eq_canon _ _ _ (cover0_A_3 c _ _ _ _ _ _ _ _ _ _ _ _ _ _), block_at]
  exact lane_eq _ _ _ _ _ _ _
    (fun r k => (block_input m c t r k).trans (Prefix.entry_input m c _ r k))
    (fun k p => (block_weights m c t k p).trans (Prefix.weights_at m c k p))
    (fun p => (block_bias m c t p).trans (Prefix.entry_bias m c p)) f (startOf o)

/-- The kernel's output array, channels before positions. -/
theorem array_eq (c : Dev nD) : (dats m 0 c).arrAt 3 (cfgs 0).N = fun i : S32x32x63119.Idx =>
    conv (m ((c : Thread nD τ).loc main_arg0)) (m ((c : Thread nD τ).loc main_arg1)) (m ((c : Thread nD τ).loc main_arg2)) (i 0) (startOf (i 2)) (i 1) := by
  refine (dats m 0 c).arrAt_eq_of_covers 3 _ (by decide +kernel) fun t _ y => ?_
  blk_simp
  rw [after0_3]
  obtain ⟨u, f, o, rfl⟩ : ∃ (u : Fin 1) (f : Fin 32) (o : Fin 63119), y = ix3 u f o := ⟨y 0, y 1, y 2, by pointwise⟩
  obtain rfl : u = 0 := Subsingleton.elim _ _
  refine (step_at m c t f o).trans ?_
  have e0 : (win0_3.blk t).view.emb (ix3 0 f o) 0 = (⟨t.val, t.isLt⟩ : Fin 32) := Fin.ext (by blk_simp [idx t]; rfl)
  have e1 : (win0_3.blk t).view.emb (ix3 0 f o) 1 = f := Fin.ext (by blk_simp [idx t])
  have e2 : (win0_3.blk t).view.emb (ix3 0 f o) 2 = o := Fin.ext (by blk_simp [idx t])
  rw [e0, e1, e2]

/-- The result: the output array with positions before channels. -/
theorem result_eq (c : Dev nD) : Pipeline.afterTail₀ cfgs (dats m) 0 (V0 m) [hostOps1] c main_v273 = fun i : S32x63119x32.Idx =>
    conv (m ((c : Thread nD τ).loc main_arg0)) (m ((c : Thread nD τ).loc main_arg1)) (m ((c : Thread nD τ).loc main_arg2)) (i 0) (startOf (i 1)) (i 2) := by
  unfold Pipeline.afterTail₀
  have h := Pipeline.withArrays_arr (cfgs 0).spec (by decide) c (V0 m c) (fun w => (dats m 0 c).arrAt w (cfgs 0).N) 3
  rw [array_eq] at h
  generalize Pipeline.withArrays (cfgs 0).spec c (V0 m c) (fun w => (dats m 0 c).arrAt w (cfgs 0).N) = U at h ⊢
  after_reads_simp
  refine (congrArg (fun z => transpose S32x63119x32 [0, 2, 1] z transposes_S32x32x63119_S32x63119x32_0_2_1) h).trans ?_
  funext i
  pointwise

end Cert.Proof.Body

end
-- ==== Proof.Ref.lean ====
module

public import proofs.«01_k».proof.Proof.Gen.ReferenceIdeal.Read
public import proofs.«01_k».proof.Proof.Conv
public import Idealize.ShloMosaic.Lib.WordCmp

@[expose] public section

set_option maxRecDepth 16384
noncomputable section
open Idealize.ShloMosaic Idealize.ShloMosaic.TcCoe Idealize.SL.Sem
namespace Cert.Proof.Ref
open Cert.ReferenceIdeal Cert.ReferenceIdeal.Gen Cert.ReferenceIdeal.Read

/-- A gather along the middle axis of three, by a table of positions: the entry at `(a, p, q, c)` is the operand's at
    `(a, n, c)`, where `n` is the table's entry at `(p, q)`, when that lies inside the operand. -/
theorem gather_at {α : Type} {A N C P Q : Nat}
    (h : GatherDims.WF ⟨3, ![A, N, C]⟩ ⟨3, ![P, Q, 1]⟩ ⟨4, ![A, P, Q, C]⟩ [0, 3] [1] [] [1] [] 2 ![A, 1, C])
    (x : (⟨3, ![A, N, C]⟩ : Shape).Idx → α) (idx : IVec ⟨3, ![P, Q, 1]⟩ 32) (a : Fin A) (p : Fin P) (q : Fin Q) (c : Fin C)
    (n : Fin N) (hn : idx (ix3 p q 0) = BitVec.ofNat 32 n.val) (hN : N < 2 ^ 31) :
    Host.gather ⟨[0, 3], [1], [], [], [1], 2, ![A, 1, C], h⟩ x idx (ix4 a p q c) = x (ix3 a n c) := by
  refine congrArg x (funext fun d => Fin.ext ?_)
  have hs : (idx (ix3 p q 0)).toInt.toNat = n.val := by
    rw [hn, BitVec.toInt_eq_toNat_of_lt (by rw [BitVec.toNat_ofNat]; omega), BitVec.toNat_ofNat]; omega
  match d with
  | ⟨0, _⟩ => show 0 + 0 + a.val = a.val; omega
  | ⟨1, _⟩ =>
    show min (idx _).toInt.toNat (N - 1) + 0 + 0 = n.val
    rw [show (idx _) = idx (ix3 p q 0) from congrArg idx (funext fun b => Fin.ext (by match b with | ⟨0, _⟩ => rfl | ⟨1, _⟩ => rfl | ⟨2, _⟩ => rfl)), hs]
    omega
  | ⟨2, _⟩ => show 0 + 0 + c.val = c.val; omega

/-- A position is not negative, so the choice that would wrap a negative one takes it as it is. -/
theorem word_not_negative (n : ℕ) (hn : n < 2 ^ 31) (v : BitVec 32) :
    Scalar.select (IntOp.cmpi CmpIPredicate.slt (BitVec.ofNat 32 n) 0#32) v (BitVec.ofNat 32 n) = BitVec.ofNat 32 n := by
  word_cmp
  exact if_neg (Nat.not_lt_zero n)

/-- The first gather's table: window `s` takes the positions from `256 s` on. -/
theorem starts_at (s : Fin 127) (p : Fin 512) :
    val_main_v14 (F := Ideal) (ix3 s p 0) = BitVec.ofNat 32 (256 * s.val + p.val) := by
  pointwise [val_main_v14, val_main_v13, val_main_v12, val_main_v11, val_main_v10, val_main_v9, val_main_v8, val_main_v7, val_main_v6,
    val_main_v5, val_main_v4, val_main_v3, val_main_v2, val_main_v1, val_main_v0, val_main_c, val_main_c_0, val_main_c_1]
  have e : IntOp.addi (IntOp.muli (BitVec.ofNat 32 s.val) 256#32) (BitVec.ofNat 32 p.val) = BitVec.ofNat 32 (256 * s.val + p.val) := by
    show BitVec.ofNat 32 s.val * BitVec.ofNat 32 256 + BitVec.ofNat 32 p.val = _
    rw [← BitVec.ofNat_mul, ← BitVec.ofNat_add, mul_comm]
  rw [e]
  exact word_not_negative _ (by omega) _

/-- The second gather's table: place `t` of a window takes the sixteen positions from `t` on. -/
theorem taps_at (t : Fin 497) (q : Fin 16) :
    val_main_v29 (F := Ideal) (ix3 t q 0) = BitVec.ofNat 32 (t.val + q.val) := by
  pointwise [val_main_v29, val_main_v28, val_main_v27, val_main_v26, val_main_v25, val_main_v24, val_main_v23, val_main_v22, val_main_v21,
    val_main_v20, val_main_v19, val_main_v18, val_main_v17, val_main_c_2, val_main_c_3]
  have e : IntOp.addi (BitVec.ofNat 32 t.val) (BitVec.ofNat 32 q.val) = BitVec.ofNat 32 (t.val + q.val) := (BitVec.ofNat_add ..).symm
  rw [e]
  exact word_not_negative _ (by omega) _

/-- The dot product over both window axes. -/
theorem dot_at (y : FVec Ideal S4064x497x16x2 .f32) (w : FVec Ideal S16x2x32 .f32) (r : Fin 4064) (t : Fin 497) (f : Fin 32) :
    Host.dotGeneral dot_S4064x497x16x2_S16x2x32_S4064x497x32_23_01_01_2_n_n none y w (ix3 r t f)
      = ∑ q : Fin 16, ∑ ch : Fin 2, y (ix4 r t q ch) * w (ix3 q ch f) := by
  pointwise

/-- The windows: window `s` of batch entry `b` at its place `p`. -/
theorem windows_at (x : FVec Ideal S32x32768x2 .f32) (b : Fin 32) (s : Fin 127) (p : Fin 512) (ch : Fin 2) :
    val_main_v15 (F := Ideal) x (ix4 b s p ch) = x (ix3 b (⟨256 * s.val + p.val, by omega⟩ : Fin 32768) ch) :=
  gather_at _ x _ b s p ch _ (starts_at s p) (by decide)

/-- The sixteen positions from each place of each window on. -/
theorem patches_at (x : FVec Ideal S32x32768x2 .f32) (r : Fin 4064) (t : Fin 497) (q : Fin 16) (ch : Fin 2) :
    val_main_v30 (F := Ideal) x (ix4 r t q ch)
      = x (ix3 (⟨r.val / 127, by omega⟩ : Fin 32) (⟨256 * (r.val % 127) + (t.val + q.val), by omega⟩ : Fin 32768) ch) := by
  refine (gather_at _ (val_main_v16 (F := Ideal) x) _ r t q ch (⟨t.val + q.val, by omega⟩ : Fin 512) (taps_at t q) (by decide)).trans ?_
  refine Eq.trans ?_ (windows_at x ⟨r.val / 127, by omega⟩ ⟨r.val % 127, by omega⟩ ⟨t.val + q.val, by omega⟩ ch)
  pointwise [val_main_v16]

/-- The reference at an index: the filtered position that output place `o` starts at. -/
theorem result_at (x : FVec Ideal S32x32768x2 .f32) (w : FVec Ideal S16x2x32 .f32) (bias : FVec Ideal S32 .f32)
    (b : Fin 32) (o : Fin 63119) (f : Fin 32) :
    val_main_v36 (F := Ideal) x w bias (ix3 b o f) = conv x w bias b (startOf o) f := by
  pointwise [val_main_v36, val_main_v35, val_main_v34, val_main_v33, val_main_v32, val_main_call0_v0, val_main_call0_cst]
  unfold conv tapSum
  refine congrArg (fun z => max (z + bias (ix1 f)) 0) ?_
  refine (dot_at _ w _ _ f).trans (Finset.sum_congr rfl fun q _ => Finset.sum_congr rfl fun ch _ => ?_)
  refine congrArg (· * w (ix3 q ch f)) ((patches_at x _ _ q ch).trans (congrArg x ?_))
  refine (ix3_inj ..).2 ⟨Fin.ext ?_, Fin.ext ?_, rfl⟩
  · show (b.val * 127 + o.val / 497) / 127 = b.val; omega
  · show 256 * ((b.val * 127 + o.val / 497) % 127) + (o.val % 497 + q.val) = 256 * (o.val / 497) + o.val % 497 + q.val; omega

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Output
public import proofs.«01_k».proof.Proof.Ref
public import Idealize.ShloMosaic.Adequacy
public import Idealize.ShloMosaic.Init

@[expose] public section

noncomputable section

namespace Cert.Proof

open Idealize.ShloMosaic Idealize.ShloMosaic.TcCoe Idealize.SL.Sem

/-- The reference runs to an end, leaves its arguments as they were, and has no semaphore that could be left raised. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The common result: at every batch entry, output position and channel, the filter sum at the position's start,
    with its bias, cut off below at zero. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v273) :=
  fun i : Cert.KernelIdeal.S32x63119x32.Idx => conv (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (i 0) (startOf (i 1)) (i 2)

/-- The kernel ends with that result. -/
theorem kernel_result (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v273) = result m c) :=
  (θ_run Cert.KernelIdeal.defs _ _).mono (fun _ h c =>
    ((h c).2 Cert.KernelIdeal.main_v273 (Pipeline.mem_restRefs_of Cert.KernelIdeal.main_v273 (by decide) (by decide))).trans (Body.result_eq m c))
    (Cert.KernelIdeal.Gen.run_main (F := Ideal) m ρ)

/-- The reference's result is the same function of its arguments. -/
theorem reference_result (x : FVec Ideal Cert.ReferenceIdeal.S32x32768x2 .f32) (w : FVec Ideal Cert.ReferenceIdeal.S16x2x32 .f32)
    (bias : FVec Ideal Cert.ReferenceIdeal.S32 .f32) :
    Cert.ReferenceIdeal.Read.val_main_v36 (F := Ideal) x w bias = fun i : Cert.ReferenceIdeal.S32x63119x32.Idx => conv x w bias (i 0) (startOf (i 1)) (i 2) := by
  funext i
  obtain ⟨b, o, f, rfl⟩ : ∃ (b : Fin 32) (o : Fin 63119) (f : Fin 32), i = ix3 b o f := ⟨i 0, i 1, i 2, by pointwise⟩
  exact Ref.result_at x w bias b o f

/-- From memories that agree on the arguments, the kernel and the reference end with equal results and unchanged arguments. -/
theorem same_results : Cert.algebraic_KernelIdeal_ReferenceIdeal (hKernelIdeal := Cert.KernelIdeal.Gen.facts) (hReferenceIdeal := Cert.ReferenceIdeal.Gen.facts) :=
  fun m ρ m' ρ' _ hagree => ⟨result m,
    (θ_run Cert.KernelIdeal.defs _ _).mono (fun _ h c => ⟨h.1 c, h.2 c⟩) (θ_run_and (kernel_result m ρ) (Cert.KernelIdeal.Gen.unchanged (F := Ideal) m ρ)),
    (θ_run Cert.ReferenceIdeal.defs _ _).mono (fun _ h c => ⟨by
        rw [(h c).1, Cert.ReferenceIdeal.Read.val_main_v36_eq, (hagree c).1, (hagree c).2.1, (hagree c).2.2]
        exact reference_result _ _ _, (h c).2⟩) (Cert.ReferenceIdeal.Value.run (F := Ideal) m' ρ')⟩

/-- Every claim of the certificate. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, same_results⟩

end Cert.Proof

end
